-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S16x4096x1024 : Shape := ⟨3, ![16, 4096, 1024]⟩
abbrev S1024x30 : Shape := ⟨2, ![1024, 30]⟩
abbrev S30 : Shape := ⟨1, ![30]⟩
abbrev S30x20 : Shape := ⟨2, ![30, 20]⟩
abbrev S20 : Shape := ⟨1, ![20]⟩
abbrev S20x10 : Shape := ⟨2, ![20, 10]⟩
abbrev S10 : Shape := ⟨1, ![10]⟩
abbrev S10x50 : Shape := ⟨2, ![10, 50]⟩
abbrev S50 : Shape := ⟨1, ![50]⟩
abbrev S50x100 : Shape := ⟨2, ![50, 100]⟩
abbrev S100 : Shape := ⟨1, ![100]⟩
abbrev S100x200 : Shape := ⟨2, ![100, 200]⟩
abbrev S200 : Shape := ⟨1, ![200]⟩
abbrev S200x100 : Shape := ⟨2, ![200, 100]⟩
abbrev S_ : Shape := ⟨0, ![]⟩

class Facts : Prop where
  bcast_S_S30 : S_.BroadcastsInDim S30 (![] : Fin 0 → Fin S30.rank)
  reducesTo_S30_S_d0 : S30.ReducesTo [0] S_
  h_S_ : 0 < S_.numel
  bcast_S_S20 : S_.BroadcastsInDim S20 (![] : Fin 0 → Fin S20.rank)
  reducesTo_S20_S_d0 : S20.ReducesTo [0] S_
  bcast_S_S10 : S_.BroadcastsInDim S10 (![] : Fin 0 → Fin S10.rank)
  reducesTo_S10_S_d0 : S10.ReducesTo [0] S_

variable [Facts]

def fn {F : FTy → Type} [FloatOps F] (main_arg0 : FVec F S16x4096x1024 .f32) (main_arg1 : FVec F S1024x30 .f32) (main_arg2 : FVec F S30 .f32) (main_arg3 : FVec F S30x20 .f32) (main_arg4 : FVec F S20 .f32) (main_arg5 : FVec F S20x10 .f32) (main_arg6 : FVec F S10 .f32) (main_arg7 : FVec F S10x50 .f32) (main_arg8 : FVec F S50 .f32) (main_arg9 : FVec F S50x100 .f32) (main_arg10 : FVec F S100 .f32) (main_arg11 : FVec F S100x200 .f32) (main_arg12 : FVec F S200 .f32) (main_arg13 : FVec F S200x100 .f32) (main_arg14 : FVec F S100 .f32) : IVec S_ 1 :=
  let main_cst : FVec F S_ .f32 := constant S_ .f32 0x00000000#32
  let main_v0 : FVec F S30 .f32 := broadcastInDim S30 ![] bcast_S_S30 main_cst
  let main_v1 : IVec S30 1 := cmpf .oeq main_arg2 main_v0
  let main_c : IVec S_ 1 := constantI S_ 1 1#1
  let main_v2 : IVec S_ 1 := (fun x v => Host.reduce IntOp.andi x v reducesTo_S30_S_d0 h_S_) main_v1 main_c
  let main_cst_0 : FVec F S_ .f32 := constant S_ .f32 0x00000000#32
  let main_v3 : FVec F S20 .f32 := broadcastInDim S20 ![] bcast_S_S20 main_cst_0
  let main_v4 : IVec S20 1 := cmpf .oeq main_arg4 main_v3
  let main_c_1 : IVec S_ 1 := constantI S_ 1 1#1
  let main_v5 : IVec S_ 1 := (fun x v => Host.reduce IntOp.andi x v reducesTo_S20_S_d0 h_S_) main_v4 main_c_1
  let main_cst_2 : FVec F S_ .f32 := constant S_ .f32 0x00000000#32
  let main_v6 : FVec F S10 .f32 := broadcastInDim S10 ![] bcast_S_S10 main_cst_2
  let main_v7 : IVec S10 1 := cmpf .oeq main_arg6 main_v6
  let main_c_3 : IVec S_ 1 := constantI S_ 1 1#1
  let main_v8 : IVec S_ 1 := (fun x v => Host.reduce IntOp.andi x v reducesTo_S10_S_d0 h_S_) main_v7 main_c_3
  let main_v9 : IVec S_ 1 := andi main_v5 main_v8
  let main_v10 : IVec S_ 1 := andi main_v2 main_v9
  main_v10
-- ==== Kernel.lean ====
abbrev S16x4096x1024 : Shape := ⟨3, ![16, 4096, 1024]⟩
abbrev S1024x30 : Shape := ⟨2, ![1024, 30]⟩
abbrev S30 : Shape := ⟨1, ![30]⟩
abbrev S30x20 : Shape := ⟨2, ![30, 20]⟩
abbrev S20 : Shape := ⟨1, ![20]⟩
abbrev S20x10 : Shape := ⟨2, ![20, 10]⟩
abbrev S10 : Shape := ⟨1, ![10]⟩
abbrev S10x50 : Shape := ⟨2, ![10, 50]⟩
abbrev S50 : Shape := ⟨1, ![50]⟩
abbrev S50x100 : Shape := ⟨2, ![50, 100]⟩
abbrev S100 : Shape := ⟨1, ![100]⟩
abbrev S100x200 : Shape := ⟨2, ![100, 200]⟩
abbrev S200 : Shape := ⟨1, ![200]⟩
abbrev S200x100 : Shape := ⟨2, ![200, 100]⟩
abbrev S65536x1024 : Shape := ⟨2, ![65536, 1024]⟩
abbrev S1x30 : Shape := ⟨2, ![1, 30]⟩
abbrev S1x20 : Shape := ⟨2, ![1, 20]⟩
abbrev S1x10 : Shape := ⟨2, ![1, 10]⟩
abbrev S1x50 : Shape := ⟨2, ![1, 50]⟩
abbrev S1x100 : Shape := ⟨2, ![1, 100]⟩
abbrev S1x200 : Shape := ⟨2, ![1, 200]⟩
abbrev S_ : Shape := ⟨0, ![]⟩
abbrev S16x100 : Shape := ⟨2, ![16, 100]⟩
abbrev S2048x1024 : Shape := ⟨2, ![2048, 1024]⟩
abbrev S2x2048x1024 : Shape := ⟨3, ![2, 2048, 1024]⟩
abbrev S16x10 : Shape := ⟨2, ![16, 10]⟩
abbrev S2 : Shape := ⟨1, ![2]⟩
abbrev S1 : Shape := ⟨1, ![1]⟩
abbrev S1x2048x1024 : Shape := ⟨3, ![1, 2048, 1024]⟩
abbrev S2048x30 : Shape := ⟨2, ![2048, 30]⟩
abbrev S2048x20 : Shape := ⟨2, ![2048, 20]⟩
abbrev S2048x10 : Shape := ⟨2, ![2048, 10]⟩
abbrev S16x1 : Shape := ⟨2, ![16, 1]⟩
abbrev S16x50 : Shape := ⟨2, ![16, 50]⟩
abbrev S16x200 : Shape := ⟨2, ![16, 200]⟩

abbrev nBuf : Space → Nat
  | .hbm => 33
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S1024x30, .f32⟩
  | .hbm, ⟨2, _⟩ => ⟨S30, .f32⟩
  | .hbm, ⟨3, _⟩ => ⟨S30x20, .f32⟩
  | .hbm, ⟨4, _⟩ => ⟨S20, .f32⟩
  | .hbm, ⟨5, _⟩ => ⟨S20x10, .f32⟩
  | .hbm, ⟨6, _⟩ => ⟨S10, .f32⟩
  | .hbm, ⟨7, _⟩ => ⟨S10x50, .f32⟩
  | .hbm, ⟨8, _⟩ => ⟨S50, .f32⟩
  | .hbm, ⟨9, _⟩ => ⟨S50x100, .f32⟩
  | .hbm, ⟨10, _⟩ => ⟨S100, .f32⟩
  | .hbm, ⟨11, _⟩ => ⟨S100x200, .f32⟩
  | .hbm, ⟨12, _⟩ => ⟨S200, .f32⟩
  | .hbm, ⟨13, _⟩ => ⟨S200x100, .f32⟩
  | .hbm, ⟨14, _⟩ => ⟨S100, .f32⟩
  | .hbm, ⟨15, _⟩ => ⟨S65536x1024, .f32⟩
  | .hbm, ⟨16, _⟩ => ⟨S1x30, .f32⟩
  | .hbm, ⟨17, _⟩ => ⟨S1x20, .f32⟩
  | .hbm, ⟨18, _⟩ => ⟨S1x10, .f32⟩
  | .hbm, ⟨19, _⟩ => ⟨S1x50, .f32⟩
  | .hbm, ⟨20, _⟩ => ⟨S1x100, .f32⟩
  | .hbm, ⟨21, _⟩ => ⟨S1x200, .f32⟩
  | .hbm, ⟨22, _⟩ => ⟨S1x100, .f32⟩
  | .hbm, ⟨23, _⟩ => ⟨S_, .f32⟩
  | .hbm, ⟨24, _⟩ => ⟨S1024x30, .f32⟩
  | .hbm, ⟨25, _⟩ => ⟨S1024x30, .f32⟩
  | .hbm, ⟨26, _⟩ => ⟨S1024x30, .fp8e4m3⟩
  | .hbm, ⟨27, _⟩ => ⟨S_, .f32⟩
  | .hbm, ⟨28, _⟩ => ⟨S30x20, .f32⟩
  | .hbm, ⟨29, _⟩ => ⟨S30x20, .f32⟩
  | .hbm, ⟨30, _⟩ => ⟨S30x20, .bf16⟩
  | .hbm, ⟨31, _⟩ => ⟨S20x10, .bf16⟩
  | .hbm, ⟨32, _⟩ => ⟨S16x100, .f32⟩
  | .local _ .vmem, ⟨0, _⟩ => ⟨S2048x1024, .f32⟩
  | .local _ .vmem, ⟨1, _⟩ => ⟨S2048x1024, .f32⟩
  | .local _ .vmem, ⟨2, _⟩ => ⟨S1024x30, .fp8e4m3⟩
  | .local _ .vmem, ⟨3, _⟩ => ⟨S1x30, .f32⟩
  | .local _ .vmem, ⟨4, _⟩ => ⟨S30x20, .bf16⟩
  | .local _ .vmem, ⟨5, _⟩ => ⟨S1x20, .f32⟩
  | .local _ .vmem, ⟨6, _⟩ => ⟨S20x10, .bf16⟩
  | .local _ .vmem, ⟨7, _⟩ => ⟨S1x10, .f32⟩
  | .local _ .vmem, ⟨8, _⟩ => ⟨S10x50, .f32⟩
  | .local _ .vmem, ⟨9, _⟩ => ⟨S1x50, .f32⟩
  | .local _ .vmem, ⟨10, _⟩ => ⟨S50x100, .f32⟩
  | .local _ .vmem, ⟨11, _⟩ => ⟨S1x100, .f32⟩
  | .local _ .vmem, ⟨12, _⟩ => ⟨S100x200, .f32⟩
  | .local _ .vmem, ⟨13, _⟩ => ⟨S1x200, .f32⟩
  | .local _ .vmem, ⟨14, _⟩ => ⟨S200x100, .f32⟩
  | .local _ .vmem, ⟨15, _⟩ => ⟨S1x100, .f32⟩
  | .local _ .vmem, ⟨16, _⟩ => ⟨S16x100, .f32⟩
  | .local _ .vmem, ⟨17, _⟩ => ⟨S2x2048x1024, .f32⟩
  | .local _ .vmem, ⟨18, _⟩ => ⟨S16x10, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off2 (i : grid0.Coords) : Fin 3 → Nat :=
  let arg0 : BitVec 32 := BitVec.ofNat 32 (i 0).val
  let c2_i32 : BitVec 32 := 2#32
  let v3 : BitVec 32 := Scalar.remsi arg0 c2_i32
  let c0_i32_14 : BitVec 32 := 0#32
  let c0_i32_15 : BitVec 32 := 0#32
  ![v3.toNat, 0, 0]
def k0_off3 (i : grid0.Coords) : Fin 2 → Nat :=
  let arg0 : BitVec 32 := BitVec.ofNat 32 (i 0).val
  let c4096_i32 : BitVec 32 := 4096#32
  let v26 : BitVec 32 := Scalar.muli arg0 c4096_i32
  let c2048_i32 : BitVec 32 := 2048#32
  let v27 : BitVec 32 := Scalar.addi v26 c2048_i32
  let c0_i32_16 : BitVec 32 := 0#32
  ![v27.toNat, 0]
def k0_off4 (i : grid0.Coords) : Fin 3 → Nat :=
  let arg0 : BitVec 32 := BitVec.ofNat 32 (i 0).val
  let c2_i32 : BitVec 32 := 2#32
  let v3 : BitVec 32 := Scalar.remsi arg0 c2_i32
  let v33 : Index := Scalar.indexCast v3
  let c0_17 : Index := 0#32
  let c0_18 : Index := 0#32
  ![v33.toNat, 0, 0]
def k0_cond2 (i : grid0.Coords) : BitVec 1 :=
  let arg0 : BitVec 32 := BitVec.ofNat 32 (i 0).val
  let c2_i32_26 : BitVec 32 := 2#32
  let v51 : BitVec 32 := Scalar.addi arg0 c2_i32_26
  let c16_i32 : BitVec 32 := 16#32
  let v52 : BitVec 1 := Scalar.cmpi .slt v51 c16_i32
  let v53 : BitVec 32 := Scalar.extui v52
  let c0_i32_27 : BitVec 32 := 0#32
  let v54 : BitVec 1 := Scalar.cmpi .ne v53 c0_i32_27
  v54

def k0_off5 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off6 (i : grid0.Coords) : Fin 3 → Nat :=
  let arg0 : BitVec 32 := BitVec.ofNat 32 (i 0).val
  let c2_i32 : BitVec 32 := 2#32
  let v3 : BitVec 32 := Scalar.remsi arg0 c2_i32
  let c0_i32_36 : BitVec 32 := 0#32
  let c0_i32_37 : BitVec 32 := 0#32
  ![v3.toNat, 0, 0]
def k0_off7 (i : grid0.Coords) : Fin 2 → Nat :=
  let arg0 : BitVec 32 := BitVec.ofNat 32 (i 0).val
  let c2_i32_33 : BitVec 32 := 2#32
  let v71 : BitVec 32 := Scalar.addi arg0 c2_i32_33
  let c4096_i32_34 : BitVec 32 := 4096#32
  let v72 : BitVec 32 := Scalar.muli v71 c4096_i32_34
  let c2048_i32_35 : BitVec 32 := 2048#32
  let v73 : BitVec 32 := Scalar.addi v72 c2048_i32_35
  let c0_i32_38 : BitVec 32 := 0#32
  ![v73.toNat, 0]
def k0_cond3 (i : grid0.Coords) : BitVec 1 :=
  let arg0 : BitVec 32 := BitVec.ofNat 32 (i 0).val
  let c15_i32 : BitVec 32 := 15#32
  let v68 : BitVec 1 := Scalar.cmpi .eq arg0 c15_i32
  let v69 : BitVec 32 := Scalar.extui v68
  let c0_i32_32 : BitVec 32 := 0#32
  let v70 : BitVec 1 := Scalar.cmpi .ne v69 c0_i32_32
  v70

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x30 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x20 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50x100 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x100 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S100x200 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x200 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S200x100 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x100 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x100 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S16x4096x1024 : Shape := ⟨3, ![16, 4096, 1024]⟩
abbrev S1024x30 : Shape := ⟨2, ![1024, 30]⟩
abbrev S30 : Shape := ⟨1, ![30]⟩
abbrev S30x20 : Shape := ⟨2, ![30, 20]⟩
abbrev S20 : Shape := ⟨1, ![20]⟩
abbrev S20x10 : Shape := ⟨2, ![20, 10]⟩
abbrev S10 : Shape := ⟨1, ![10]⟩
abbrev S10x50 : Shape := ⟨2, ![10, 50]⟩
abbrev S50 : Shape := ⟨1, ![50]⟩
abbrev S50x100 : Shape := ⟨2, ![50, 100]⟩
abbrev S100 : Shape := ⟨1, ![100]⟩
abbrev S100x200 : Shape := ⟨2, ![100, 200]⟩
abbrev S200 : Shape := ⟨1, ![200]⟩
abbrev S200x100 : Shape := ⟨2, ![200, 100]⟩
abbrev S16x4096x30 : Shape := ⟨3, ![16, 4096, 30]⟩
abbrev S1x1x30 : Shape := ⟨3, ![1, 1, 30]⟩
abbrev S_ : Shape := ⟨0, ![]⟩
abbrev S16x4096x20 : Shape := ⟨3, ![16, 4096, 20]⟩
abbrev S1x1x20 : Shape := ⟨3, ![1, 1, 20]⟩
abbrev S16x4096x10 : Shape := ⟨3, ![16, 4096, 10]⟩
abbrev S1x1x10 : Shape := ⟨3, ![1, 1, 10]⟩
abbrev S16x10 : Shape := ⟨2, ![16, 10]⟩
abbrev S16x50 : Shape := ⟨2, ![16, 50]⟩
abbrev S1x50 : Shape := ⟨2, ![1, 50]⟩
abbrev S16x100 : Shape := ⟨2, ![16, 100]⟩
abbrev S1x100 : Shape := ⟨2, ![1, 100]⟩
abbrev S16x200 : Shape := ⟨2, ![16, 200]⟩
abbrev S1x200 : Shape := ⟨2, ![1, 200]⟩

abbrev nBuf : Space → Nat
  | .hbm => 71
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x30, .f32⟩
  | .hbm, ⟨2, _⟩ => ⟨S30, .f32⟩
  | .hbm, ⟨3, _⟩ => ⟨S30x20, .f32⟩
  | .hbm, ⟨4, _⟩ => ⟨S20, .f32⟩
  | .hbm, ⟨5, _⟩ => ⟨S20x10, .f32⟩
  | .hbm, ⟨6, _⟩ => ⟨S10, .f32⟩
  | .hbm, ⟨7, _⟩ => ⟨S10x50, .f32⟩
  | .hbm, ⟨8, _⟩ => ⟨S50, .f32⟩
  | .hbm, ⟨9, _⟩ => ⟨S50x100, .f32⟩
  | .hbm, ⟨10, _⟩ => ⟨S100, .f32⟩
  | .hbm, ⟨11, _⟩ => ⟨S100x200, .f32⟩
  | .hbm, ⟨12, _⟩ => ⟨S200, .f32⟩
  | .hbm, ⟨13, _⟩ => ⟨S200x100, .f32⟩
  | .hbm, ⟨14, _⟩ => ⟨S100, .f32⟩
  | .hbm, ⟨15, _⟩ => ⟨S16x4096x30, .f32⟩
  | .hbm, ⟨16, _⟩ => ⟨S1x1x30, .f32⟩
  | .hbm, ⟨17, _⟩ => ⟨S16x4096x30, .f32⟩
  | .hbm, ⟨18, _⟩ => ⟨S16x4096x30, .f32⟩
  | .hbm, ⟨19, _⟩ => ⟨S_, .f32⟩
  | .hbm, ⟨20, _⟩ => ⟨S16x4096x30, .f32⟩
  | .hbm, ⟨21, _⟩ => ⟨S16x4096x30, .f32⟩
  | .hbm, ⟨22, _⟩ => ⟨S16x4096x20, .f32⟩
  | .hbm, ⟨23, _⟩ => ⟨S1x1x20, .f32⟩
  | .hbm, ⟨24, _⟩ => ⟨S16x4096x20, .f32⟩
  | .hbm, ⟨25, _⟩ => ⟨S16x4096x20, .f32⟩
  | .hbm, ⟨26, _⟩ => ⟨S_, .f32⟩
  | .hbm, ⟨27, _⟩ => ⟨S16x4096x20, .f32⟩
  | .hbm, ⟨28, _⟩ => ⟨S16x4096x20, .f32⟩
  | .hbm, ⟨29, _⟩ => ⟨S16x4096x10, .f32⟩
  | .hbm, ⟨30, _⟩ => ⟨S1x1x10, .f32⟩
  | .hbm, ⟨31, _⟩ => ⟨S16x4096x10, .f32⟩
  | .hbm, ⟨32, _⟩ => ⟨S16x4096x10, .f32⟩
  | .hbm, ⟨33, _⟩ => ⟨S_, .f32⟩
  | .hbm, ⟨34, _⟩ => ⟨S16x4096x10, .f32⟩
  | .hbm, ⟨35, _⟩ => ⟨S16x4096x10, .f32⟩
  | .hbm, ⟨36, _⟩ => ⟨S_, .f32⟩
  | .hbm, ⟨37, _⟩ => ⟨S16x10, .f32⟩
  | .hbm, ⟨38, _⟩ => ⟨S16x50, .f32⟩
  | .hbm, ⟨39, _⟩ => ⟨S1x50, .f32⟩
  | .hbm, ⟨40, _⟩ => ⟨S16x50, .f32⟩
  | .hbm, ⟨41, _⟩ => ⟨S16x50, .f32⟩
  | .hbm, ⟨42, _⟩ => ⟨S_, .f32⟩
  | .hbm, ⟨43, _⟩ => ⟨S16x50, .f32⟩
  | .hbm, ⟨44, _⟩ => ⟨S16x50, .f32⟩
  | .hbm, ⟨45, _⟩ => ⟨S16x100, .f32⟩
  | .hbm, ⟨46, _⟩ => ⟨S1x100, .f32⟩
  | .hbm, ⟨47, _⟩ => ⟨S16x100, .f32⟩
  | .hbm, ⟨48, _⟩ => ⟨S16x100, .f32⟩
  | .hbm, ⟨49, _⟩ => ⟨S_, .f32⟩
  | .hbm, ⟨50, _⟩ => ⟨S16x100, .f32⟩
  | .hbm, ⟨51, _⟩ => ⟨S16x100, .f32⟩
  | .hbm, ⟨52, _⟩ => ⟨S16x200, .f32⟩
  | .hbm, ⟨53, _⟩ => ⟨S1x200, .f32⟩
  | .hbm, ⟨54, _⟩ => ⟨S16x200, .f32⟩
  | .hbm, ⟨55, _⟩ => ⟨S16x200, .f32⟩
  | .hbm, ⟨56, _⟩ => ⟨S_, .f32⟩
  | .hbm, ⟨57, _⟩ => ⟨S16x200, .f32⟩
  | .hbm, ⟨58, _⟩ => ⟨S16x200, .f32⟩
  | .hbm, ⟨59, _⟩ => ⟨S16x100, .f32⟩
  | .hbm, ⟨60, _⟩ => ⟨S1x100, .f32⟩
  | .hbm, ⟨61, _⟩ => ⟨S16x100, .f32⟩
  | .hbm, ⟨62, _⟩ => ⟨S16x100, .f32⟩
  | .hbm, ⟨63, _⟩ => ⟨S16x100, .f32⟩
  | .hbm, ⟨64, _⟩ => ⟨S16x100, .f32⟩
  | .hbm, ⟨65, _⟩ => ⟨S_, .f32⟩
  | .hbm, ⟨66, _⟩ => ⟨S16x100, .f32⟩
  | .hbm, ⟨67, _⟩ => ⟨S16x100, .f32⟩
  | .hbm, ⟨68, _⟩ => ⟨S_, .f32⟩
  | .hbm, ⟨69, _⟩ => ⟨S16x100, .f32⟩
  | .hbm, ⟨70, _⟩ => ⟨S16x100, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_cst : Ref sig .tc := ⟨.hbm, 33, rfl⟩
abbrev main_call2_v0 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call3_cst : Ref sig .tc := ⟨.hbm, 42, rfl⟩
abbrev main_call3_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call4_cst : Ref sig .tc := ⟨.hbm, 49, rfl⟩
abbrev main_call4_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call5_cst : Ref sig .tc := ⟨.hbm, 56, rfl⟩
abbrev main_call5_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_0 : Ref sig .tc := ⟨.hbm, 65, rfl⟩
abbrev main_v37 : Ref sig .tc := ⟨.hbm, 66, rfl⟩
abbrev main_v38 : Ref sig .tc := ⟨.hbm, 67, rfl⟩
abbrev main_cst_1 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]
-- ==== Proof.KernelIdeal.Ring.lean ====
/-
  The half-sequences the kernel copies by hand: names for the two scratch slots, the two semaphore cells and the
  sixteen source blocks, and what a copy in flight holds.

  Point `t` waits for the copy of block `t` (rows `4096 t + 2048 …` of the input) in slot `t % 2`; it was started
  at point `t - 2`, or at point 0 for the first two.  Up to three blocks touch the source at a time, so a third of
  the share the body owns of the source is lent to each: block `b` borrows from the copy number `b % 3`.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The branches of the body, by point -/

/-- The body clears its accumulator and starts the first two copies. -/
abbrev isFirst (i : grid0.Coords) : Prop := (Scalar.cmpi .ne (Scalar.extui (Scalar.cmpi .eq (BitVec.ofNat 32 (i 0).val) 0#32)) 0#32) = 1#1
/-- The body starts the copy two points ahead. -/
abbrev startsNext (i : grid0.Coords) : Prop := k0_cond2 i = 1#1
/-- The body applies the dense head. -/
abbrev isLast (i : grid0.Coords) : Prop := k0_cond3 i = 1#1

theorem isFirst_iff : ∀ t : Fin grid0.N, isFirst (grid0.coords t) ↔ t.val = 0 := by decide +kernel
theorem startsNext_iff : ∀ t : Fin grid0.N, startsNext (grid0.coords t) ↔ t.val < 14 := by decide +kernel
theorem isLast_iff : ∀ t : Fin grid0.N, isLast (grid0.coords t) ↔ t.val = 15 := by decide +kernel

/-! ## Slots, cells and source blocks -/

abbrev ringM : Memref sig .tc .vmem S2x2048x1024 .f32 := Memref.whole cc0_scratch0
abbrev accM : Memref sig .tc .vmem S16x10 .f32 := Memref.whole cc0_scratch1
abbrev srcM : Memref sig .tc .hbm S65536x1024 .f32 := Memref.whole main_v0

theorem slot_inb (s : Fin 2) : ∀ a, (![s.val, 0, 0] : Fin 3 → Nat) a + S1x2048x1024.size a ≤ S2x2048x1024.size a := by
  have := s.isLt; intro a; fin_cases a <;> simp <;> omega
theorem block_inb (b : Fin 16) : ∀ a, (![4096 * b.val + 2048, 0] : Fin 2 → Nat) a + S2048x1024.size a ≤ S65536x1024.size a := by
  have := b.isLt; intro a; fin_cases a <;> simp <;> omega
theorem cell_inb (s : Fin 2) : ∀ a, (![s.val] : Fin 1 → Nat) a + S1.size a ≤ S2.size a := by
  have := s.isLt; intro a; fin_cases a <;> simp <;> omega

/-- Scratch slot `s`. -/
def slotM (s : Fin 2) : Memref sig .tc .vmem S2048x1024 .f32 :=
  (ringM.slice (Rect.unit (s := S2x2048x1024) ![s.val, 0, 0] S1x2048x1024.size (slot_inb s)) (fun _ => rfl)).squeeze S2048x1024 squeezes_S1x2048x1024_S2048x1024
/-- Source block `b`: the second half of sequence `b`. -/
def blockM (b : Fin 16) : Memref sig .tc .hbm S2048x1024 .f32 :=
  srcM.slice (Rect.unit (s := S65536x1024) ![4096 * b.val + 2048, 0] S2048x1024.size (block_inb b)) (fun _ => rfl)
/-- The semaphore of slot `s`. -/
def cellA (s : Fin 2) : DmaSems sig S_ := (cc0_scratch2.slice (Rect.unit (s := S2) ![s.val] S1.size (cell_inb s))).squeeze S_ squeezes_S1_S_
abbrev cellL (s : Fin 2) : SemLoc sig := SemLoc.dma (cellA s).sem
theorem cellL_0 : cellL 0 = SemLoc.dma 17 := by decide
theorem cellL_1 : cellL 1 = SemLoc.dma 18 := by decide

section Families
variable (c : Dev nD) (W : Buf (Elt F) (srcM.view.loc (c : Thread nD τ)))

/-- The share of the source that copy number `k` carries: thirds of the right half (the left half is the staged window's). -/
abbrev thirdOf (k : Fin 3) : PosShare TreeShare :=
  if k.val = 0 then fullShare.right.left else if k.val = 1 then fullShare.right.right.left else fullShare.right.right.right

abbrev slotP (s : Fin 2) (f : Buf (Elt F) ((slotM s).view.loc (c : Thread nD τ))) : sProp 𝕄 :=
  (slotM s).view.loc (c : Thread nD τ) ↦[(slotM s).view.set]{fullShare} f
abbrev cellP (s : Fin 2) : sProp 𝕄 := semVal ((c : Thread nD τ), cellL s) 0
abbrev blockP (k : Fin 3) (b : Fin 16) : sProp 𝕄 := (blockM b).view.loc (c : Thread nD τ) ↦[(blockM b).view.set]{thirdOf k} W
/-- The rest of copy `k` of the source while block `b` of it is lent. -/
def restP (k : Fin 3) (b : Fin 16) : sProp 𝕄 := ((c : Thread nD τ).loc main_v0) ↦[Finset.univ \ (blockM b).view.set]{thirdOf k} W
abbrev wholeP (k : Fin 3) : sProp 𝕄 := ((c : Thread nD τ).loc main_v0) ↦[Finset.univ]{thirdOf k} W
/-- Slot `s` once block `b` has landed in it. -/
abbrev landed (s : Fin 2) (b : Fin 16) (f : Buf (Elt F) ((slotM s).view.loc (c : Thread nD τ))) : Buf (Elt F) ((slotM s).view.loc (c : Thread nD τ)) :=
  (slotM s).view.writes (Elt F) f [⟨Rect.whole S2048x1024, ReadAs.same.apply ((blockM b).view.read (Elt F) W)⟩]
/-- The copy of block `b` into slot `s` in flight, borrowing from copy `k` of the source. -/
abbrev flightP (s : Fin 2) (k : Fin 3) (b : Fin 16) (f : Buf (Elt F) ((slotM s).view.loc (c : Thread nD τ))) : sProp 𝕄 :=
  Transfers.Flight countersEmb (c : Thread nD τ) (cellL s) default ((slotM s).view.amount (cellL s))
    iprop(slotP c s (landed c W s b f) ∗ blockP c W k b)

/-- A slot at rest, at any contents, and its cell at zero. -/
abbrev freeSlot (s : Fin 2) : sProp 𝕄 := iprop(cellP c s ∗ ∃ f, slotP c s f)
/-- Block `b` in flight. -/
abbrev inFlight (s : Fin 2) (k : Fin 3) (b : Fin 16) : sProp 𝕄 := iprop((∃ f, flightP c W s k b f) ∗ restP c W k b)
/-- What stands for block number `j` from the point that starts it to the point that waits for it: the copy in
    flight, or, past the last block, the slot at rest and the share it would have borrowed. -/
def role (j : ℕ) : sProp 𝕄 :=
  if j < 16 then inFlight c W (Ring.sl 2 j) (Ring.sl 3 j) (Ring.bk 16 j)
  else iprop(freeSlot c (Ring.sl 2 j) ∗ wholeP c W (Ring.sl 3 j))
/-- The copies before point `k`. -/
def ringAt (k : ℕ) : sProp 𝕄 :=
  if k = 0 then iprop((freeSlot c 0 ∗ freeSlot c 1) ∗ wholeP c W 0 ∗ wholeP c W 1 ∗ wholeP c W 2)
  else iprop(role c W k ∗ role c W (k + 1) ∗ wholeP c W (Ring.sl 3 (k + 2)))

theorem block_split (k : Fin 3) (b : Fin 16) : wholeP (F := F) c W k ⊣⊢ iprop(blockP c W k b ∗ restP c W k b) := by
  unfold restP; exact pointsTo_split_subset (Finset.subset_univ _)

/-- The right half of the source is its three copies. -/
theorem whole_split : (((c : Thread nD τ).loc main_v0 ↦{fullShare.right} W) : sProp 𝕄) ⊣⊢ iprop(wholeP c W 0 ∗ wholeP c W 1 ∗ wholeP c W 2) := by
  refine ⟨?_, ?_⟩
  · iintro H
    ihave H' := (pointsTo_share (PosShare.mem_left_op_right fullShare.right)).1 $$ H
    icases H' with ⟨H0, H12⟩
    ihave H'' := (pointsTo_share (PosShare.mem_left_op_right fullShare.right.right)).1 $$ H12
    icases H'' with ⟨H1, H2⟩
    isplitl [H0]; · iexact H0
    isplitl [H1]; · iexact H1
    iexact H2
  · iintro ⟨H0, H1, H2⟩
    iapply (pointsTo_share (PosShare.mem_left_op_right fullShare.right)).2
    isplitl [H0]; · iexact H0
    iapply (pointsTo_share (PosShare.mem_left_op_right fullShare.right.right)).2
    isplitl [H1]; · iexact H1
    iexact H2

omit [FloatOps F] in
theorem cellP_0 : cellP (F := F) c 0 = semVal ((c : Thread nD τ), SemLoc.dma 17) 0 := congrArg (fun x => (semVal ((c : Thread nD τ), x) 0 : sProp 𝕄)) cellL_0
omit [FloatOps F] in
theorem cellP_1 : cellP (F := F) c 1 = semVal ((c : Thread nD τ), SemLoc.dma 18) 0 := congrArg (fun x => (semVal ((c : Thread nD τ), x) 0 : sProp 𝕄)) cellL_1
end Families

/-! ## The slots make up the scratch -/

abbrev slotSet (s : Fin 2) : Finset S2x2048x1024.Idx := (Rect.unit (s := S2x2048x1024) ![s.val, 0, 0] S1x2048x1024.size (slot_inb s)).set
theorem slotSet_eq (s : Fin 2) : (slotM s).view.set = slotSet s := by
  simp only [slotM, Memref.view_squeeze, View.set_reshape]; exact View.set_slice_whole _ _
theorem slotSet_disjoint (s s' : Fin 2) (h : s ≠ s') : Disjoint (slotSet s) (slotSet s') :=
  Ring.lead_disjoint (s := S2x2048x1024) (0 : Fin 3) 1 (fun s : Fin 2 => (![s.val, 0, 0] : Fin 3 → Nat)) S1x2048x1024.size slot_inb (fun s => by simp) rfl s s' h
theorem slotSet_cover : Finset.univ.biUnion slotSet = Finset.univ :=
  Ring.lead_cover (s := S2x2048x1024) (0 : Fin 3) 1 (fun s : Fin 2 => (![s.val, 0, 0] : Fin 3 → Nat)) S1x2048x1024.size slot_inb (fun s => by simp)
    (fun s a ha => by fin_cases a <;> first | exact absurd rfl ha | rfl) rfl (fun a ha => by fin_cases a <;> first | exact absurd rfl ha | rfl) rfl

section InOut
variable (c : Dev nD) (W : Buf (Elt F) (srcM.view.loc (c : Thread nD τ)))

theorem slotP_eq (s : Fin 2) (f) : slotP (F := F) c s f = (((c : Thread nD τ).loc cc0_scratch0) ↦[slotSet s]{fullShare} f : sProp 𝕄) := by
  unfold slotP; rw [slotSet_eq]; rfl
set_option maxHeartbeats 1000000 in
theorem slots_in : iprop(∃ d : Buf (Elt F) ((c : Thread nD τ).loc cc0_scratch0), ((c : Thread nD τ).loc cc0_scratch0) ↦{fullShare} d) ⊢ (iprop((∃ f, slotP (F := F) c 0 f) ∗ ∃ f, slotP (F := F) c 1 f) : sProp 𝕄) :=
  Ring.slots2_split (U := Pipeline.UD sig nD τ) (ℓ := (c : Thread nD τ).loc cc0_scratch0) (q := fullShare) slotSet slotSet_disjoint slotSet_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d : Buf (Elt F) ((c : Thread nD τ).loc cc0_scratch0), ((c : Thread nD τ).loc cc0_scratch0) ↦{fullShare} d) :=
  Ring.slots2_join (U := Pipeline.UD sig nD τ) (ℓ := (c : Thread nD τ).loc cc0_scratch0) (q := fullShare) slotSet slotSet_disjoint slotSet_cover
    (slotP c 0) (slotP c 1) (slotP_eq c 0) (slotP_eq c 1)
end InOut

/-! ## The body's own spellings of these names -/

section Canon
omit [FloatOps F]

theorem slot_canon {o : Fin 3 → ℕ} (k : ℕ) (h : o = ![(Ring.sl 2 k).val, 0, 0]) (hb) :
    (ringM.slice (Rect.unit (s := S2x2048x1024) o S1x2048x1024.size hb) (fun _ => rfl)).squeeze S2048x1024 squeezes_S1x2048x1024_S2048x1024 = slotM (Ring.sl 2 k) :=
  congrArg (fun M : Memref sig .tc .vmem S1x2048x1024 .f32 => M.squeeze S2048x1024 squeezes_S1x2048x1024_S2048x1024) (Memref.slice_unit_congr _ h _ _ (fun _ => rfl) (fun _ => rfl))
theorem cell_canon {o : Fin 1 → ℕ} (k : ℕ) (h : o = ![(Ring.sl 2 k).val]) (hb) :
    (cc0_scratch2.slice (Rect.unit (s := S2) o S1.size hb)).squeeze S_ squeezes_S1_S_ = cellA (Ring.sl 2 k) :=
  congrArg (fun A : DmaSems sig S1 => A.squeeze S_ squeezes_S1_S_) (SemArray.slice_unit_congr _ h _ _)
theorem block_canon {o : Fin 2 → ℕ} (k : ℕ) (h : o = ![4096 * (Ring.bk 16 k).val + 2048, 0]) (hb) :
    srcM.slice (Rect.unit (s := S65536x1024) o S2048x1024.size hb) (fun _ => rfl) = blockM (Ring.bk 16 k) :=
  Memref.slice_unit_congr _ h _ _ (fun _ => rfl) (fun _ => rfl)

theorem off1_sl : ∀ t : Fin grid0.N, k0_off1 (grid0.coords t) = ![(Ring.sl 2 t.val).val] := by decide +kernel
theorem off2_sl : ∀ t : Fin grid0.N, k0_off2 (grid0.coords t) = ![(Ring.sl 2 t.val).val, 0, 0] := by decide +kernel
theorem off3_bk : ∀ t : Fin grid0.N, k0_off3 (grid0.coords t) = ![4096 * (Ring.bk 16 t.val).val + 2048, 0] := by decide +kernel
theorem off4_sl : ∀ t : Fin grid0.N, k0_off4 (grid0.coords t) = ![(Ring.sl 2 t.val).val, 0, 0] := by decide +kernel
theorem off5_sl : ∀ t : Fin grid0.N, k0_off5 (grid0.coords t) = ![(Ring.sl 2 t.val).val] := by decide +kernel
theorem off6_sl : ∀ t : Fin grid0.N, k0_off6 (grid0.coords t) = ![(Ring.sl 2 t.val).val, 0, 0] := by decide +kernel
theorem off7_bk : ∀ t : Fin grid0.N, startsNext (grid0.coords t) → k0_off7 (grid0.coords t) = ![4096 * (Ring.bk 16 (t.val + 2)).val + 2048, 0] := by decide +kernel

@[sl_canon] theorem canon1 (t : Fin grid0.N) :
    (cc0_scratch2.slice (Rect.unit (s := S2) (k0_off1 (grid0.coords t)) S1.size (k0_off1_inb (grid0.coords t)))).squeeze S_ squeezes_S1_S_ = cellA (Ring.sl 2 t.val) :=
  cell_canon _ (off1_sl t) _
@[sl_canon] theorem canon2 (t : Fin grid0.N) :
    (ringM.slice (Rect.unit (s := S2x2048x1024) (k0_off2 (grid0.coords t)) S1x2048x1024.size (k0_off2_inb (grid0.coords t))) (fun _ => rfl)).squeeze S2048x1024 squeezes_S1x2048x1024_S2048x1024 = slotM (Ring.sl 2 t.val) :=
  slot_canon _ (off2_sl t) _
@[sl_canon] theorem canon5 (t : Fin grid0.N) (h : startsNext (grid0.coords t)) :
    (cc0_scratch2.slice (Rect.unit (s := S2) (k0_off5 (grid0.coords t)) S1.size (k0_off5_inb (grid0.coords t) h))).squeeze S_ squeezes_S1_S_ = cellA (Ring.sl 2 t.val) :=
  cell_canon _ (off5_sl t) _
@[sl_canon] theorem canon6 (t : Fin grid0.N) (h : startsNext (grid0.coords t)) :
    (ringM.slice (Rect.unit (s := S2x2048x1024) (k0_off6 (grid0.coords t)) S1x2048x1024.size (k0_off6_inb (grid0.coords t) h)) (fun _ => rfl)).squeeze S2048x1024 squeezes_S1x2048x1024_S2048x1024 = slotM (Ring.sl 2 t.val) :=
  slot_canon _ (off6_sl t) _
@[sl_canon] theorem canon7 (t : Fin grid0.N) (h : startsNext (grid0.coords t)) :
    srcM.slice (Rect.unit (s := S65536x1024) (k0_off7 (grid0.coords t)) S2048x1024.size (k0_off7_inb (grid0.coords t) h)) (fun _ => rfl) = blockM (Ring.bk 16 (t.val + 2)) :=
  block_canon _ (off7_bk t h) _

theorem first_slot0 : ∀ t : Fin grid0.N, isFirst (grid0.coords t) → (![0, 0, 0] : Fin 3 → Nat) = ![(Ring.sl 2 t.val).val, 0, 0] := by decide +kernel
theorem first_slot1 : ∀ t : Fin grid0.N, isFirst (grid0.coords t) → (![1, 0, 0] : Fin 3 → Nat) = ![(Ring.sl 2 (t.val + 1)).val, 0, 0] := by decide +kernel
theorem first_cell0 : ∀ t : Fin grid0.N, isFirst (grid0.coords t) → (![0] : Fin 1 → Nat) = ![(Ring.sl 2 t.val).val] := by decide +kernel
theorem first_cell1 : ∀ t : Fin grid0.N, isFirst (grid0.coords t) → (![1] : Fin 1 → Nat) = ![(Ring.sl 2 (t.val + 1)).val] := by decide +kernel
theorem first_block0 : ∀ t : Fin grid0.N, isFirst (grid0.coords t) → (![2048, 0] : Fin 2 → Nat) = ![4096 * (Ring.bk 16 t.val).val + 2048, 0] := by decide +kernel
theorem first_block1 : ∀ t : Fin grid0.N, isFirst (grid0.coords t) → (![6144, 0] : Fin 2 → Nat) = ![4096 * (Ring.bk 16 (t.val + 1)).val + 2048, 0] := by decide +kernel

/-- The load of the landed slot, through the whole ring, stays inside that slot. -/
instance (priority := high) closedOff4 (t : Fin grid0.N) : ClosedOff (k0_off4 (grid0.coords t)) := ⟨![(Ring.sl 2 t.val).val, 0, 0], off4_sl t⟩
end Canon

end Cert.KernelIdeal.Hand

end
-- ==== Proof.KernelIdeal.Body.lean ====
/-
  The kernel body run once at each kind of grid point: the first point, a point that starts a copy, the point that
  starts none, and the last point, which applies the dense head.
-/
module

public import proofs.«01_k».proof.Proof.KernelIdeal.Ring
public import Idealize.ShloMosaic.Lib.VecWindow
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The accumulator after point `t`. -/
def accStep (t : Fin grid0.N) (w1 : Vec F S1024x30 .fp8e4m3) (w2 : Vec F S30x20 .bf16) (w3 : Vec F S20x10 .bf16)
    (xa : Vec F S2048x1024 .f32) (xb : Vec F S1x2048x1024 .f32) (acc : Vec F S16x10 .f32) : Vec F S16x10 .f32 :=
  k0_pay1 (BitVec.ofNat 32 (grid0.coords t 0).val) (k0_pay4 w1) (k0_pay5 w2) (k0_pay6 w3) (k0_pay7 w1 w2 w3 xa) xb acc

/-- The block copied for point `t`, as the body loads it from its slot. -/
def landedV (c : Dev nD) (W : Buf (Elt F) (srcM.view.loc (c : Thread nD τ))) (t : Fin grid0.N) : Vec F S1x2048x1024 .f32 :=
  View.readAt (Elt F) ringM.view (Rect.unit (s := S2x2048x1024) (k0_off4 (grid0.coords t)) S1x2048x1024.size (k0_off4_inb (grid0.coords t))).toLoadRect
    (landed c W (Ring.sl 2 t.val) (Ring.bk 16 t.val) (slotM (Ring.sl 2 t.val)).view.junk)

theorem readAt_full {sp : Space} {s : Shape} {e : EltTy} {m : Memref sig .tc sp s e} (h : m.IsWhole) {off : Fin s.rank → ℕ}
    (hz : off = fun _ => 0) (inb : ∀ a, off a + s.size a ≤ s.size a) (X : s.Idx → Elt F e) :
    View.readAt (Elt F) m.view (Rect.unit off s.size inb).toLoadRect (h.unread X) = X := by
  funext x; exact (congrFun (h.read_unread X) _).trans (congrFun (View.ld_unit_zero hz inb X) x)

theorem read_stored {sp : Space} {s : Shape} {e : EltTy} (m : Memref sig .tc sp s e) (f : m.view.ty.Contents (Elt F)) {off : Fin s.rank → ℕ}
    (hz : off = fun _ => 0) (inb : ∀ a, off a + s.size a ≤ s.size a) (X : s.Idx → Elt F e) (L : List (View.Piece (Elt F) s e)) :
    m.view.read (Elt F) (m.view.writes (Elt F) f (⟨Rect.unit off s.size inb, X⟩ :: L)) = X := by
  subst hz; exact View.read_writes_full _ _ _ _ _

theorem zeros2 : (![0, 0] : Fin 2 → ℕ) = fun _ => 0 := by funext a; fin_cases a <;> rfl

theorem owns_unread (c : Dev nD) {sp : Space} {s : Shape} {e : EltTy} {m : Memref sig .tc sp s e} (h : m.IsWhole) (X : s.Idx → Elt F e) :
    (m.view.loc (c : Thread nD τ) ↦[m.view.set]{fullShare} h.unread X : sProp 𝕄) ⊢ iprop(∃ f, ⌜m.view.read (Elt F) f = X⌝ ∗ m.view.loc (c : Thread nD τ) ↦[m.view.set]{fullShare} f) := by
  iintro H; iexists _; isplitr
  · ipureintro; exact h.read_unread _
  iexact H

section Run
variable (c : Dev nD) (t : Fin grid0.N) (W : Buf (Elt F) (srcM.view.loc (c : Thread nD τ)))
  (arg2 : Memref sig .tc .vmem S2048x1024 .f32) (harg2 : arg2.IsWhole)
  (arg3 : Memref sig .tc .vmem S1024x30 .fp8e4m3) (harg3 : arg3.IsWhole)
  (arg4 : Memref sig .tc .vmem S1x30 .f32) (harg4 : arg4.IsWhole)
  (arg5 : Memref sig .tc .vmem S30x20 .bf16) (harg5 : arg5.IsWhole)
  (arg6 : Memref sig .tc .vmem S1x20 .f32) (harg6 : arg6.IsWhole)
  (arg7 : Memref sig .tc .vmem S20x10 .bf16) (harg7 : arg7.IsWhole)
  (arg8 : Memref sig .tc .vmem S1x10 .f32) (harg8 : arg8.IsWhole)
  (arg9 : Memref sig .tc .vmem S10x50 .f32) (harg9 : arg9.IsWhole)
  (arg10 : Memref sig .tc .vmem S1x50 .f32) (harg10 : arg10.IsWhole)
  (arg11 : Memref sig .tc .vmem S50x100 .f32) (harg11 : arg11.IsWhole)
  (arg12 : Memref sig .tc .vmem S1x100 .f32) (harg12 : arg12.IsWhole)
  (arg13 : Memref sig .tc .vmem S100x200 .f32) (harg13 : arg13.IsWhole)
  (arg14 : Memref sig .tc .vmem S1x200 .f32) (harg14 : arg14.IsWhole)
  (arg15 : Memref sig .tc .vmem S200x100 .f32) (harg15 : arg15.IsWhole)
  (arg16 : Memref sig .tc .vmem S1x100 .f32) (harg16 : arg16.IsWhole)
  (arg17 : Memref sig .tc .vmem S16x100 .f32) (harg17 : arg17.IsWhole)
  (arg19 : Memref sig .tc .vmem S16x10 .f32) (harg19 : arg19.IsWhole)
  (xa : Vec F S2048x1024 .f32) (w1 : Vec F S1024x30 .fp8e4m3) (w2 : Vec F S30x20 .bf16) (w3 : Vec F S20x10 .bf16) (acc : Vec F S16x10 .f32)
  (y1 : Vec F S10x50 .f32) (d1 : Vec F S1x50 .f32) (y2 : Vec F S50x100 .f32) (d2 : Vec F S1x100 .f32) (y3 : Vec F S100x200 .f32) (d3 : Vec F S1x200 .f32) (y4 : Vec F S200x100 .f32) (d4 : Vec F S1x100 .f32)
  (Wt : Waits sig Unit)

set_option maxHeartbeats 2000000 in
/-- A point past the first that starts the copy two points ahead. -/
theorem run_middle (h0 : ¬isFirst (grid0.coords t)) (h1 : startsNext (grid0.coords t)) (h2 : ¬isLast (grid0.coords t)) (K : PUnit → sProp 𝕄) :
    iprop(owns (c : Thread nD τ) arg2 fullShare xa ∗ owns (c : Thread nD τ) arg3 fullShare w1 ∗ owns (c : Thread nD τ) arg5 fullShare w2 ∗ owns (c : Thread nD τ) arg7 fullShare w3
        ∗ owns (c : Thread nD τ) arg19 fullShare acc ∗ inFlight c W (Ring.sl 2 t.val) (Ring.sl 3 t.val) (Ring.bk 16 t.val) ∗ wholeP c W (Ring.sl 3 (t.val + 2)) ∗ owes (c : Thread nD τ) 0 Wt
        ∗ (iprop(owns (c : Thread nD τ) arg2 fullShare xa ∗ owns (c : Thread nD τ) arg3 fullShare w1 ∗ owns (c : Thread nD τ) arg5 fullShare w2 ∗ owns (c : Thread nD τ) arg7 fullShare w3
            ∗ owns (c : Thread nD τ) arg19 fullShare (accStep t w1 w2 w3 xa (landedV c W t) acc)
            ∗ inFlight c W (Ring.sl 2 t.val) (Ring.sl 3 (t.val + 2)) (Ring.bk 16 (t.val + 2)) ∗ wholeP c W (Ring.sl 3 t.val) ∗ (∃ Wt', owes (c : Thread nD τ) 0 Wt')) -∗ K ⟨⟩))
      ⊢ wp frame (wpE (defs₀ (F := F)) Variants.none c none) Set.univ
          (cc0__mlp_kernel (grid0.coords t) (Memref.whole main_v0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ringM (Memref.isWhole_whole _) arg19 harg19 cc0_scratch2) K := by
  haveI : Fact (¬isFirst (grid0.coords t)) := ⟨h0⟩
  haveI : Fact (startsNext (grid0.coords t)) := ⟨h1⟩
  haveI : Fact (¬isLast (grid0.coords t)) := ⟨h2⟩
  simp only [cc0__mlp_kernel_eq_skeleton]; unfold cc0__mlp_kernel_skel
  simp only [k0_part2_eq_skeleton]
  have hcanon5 := canon5 t h1
  have hcanon6 := canon6 t h1
  have hcanon7 := canon7 t h1
  unfold owns
  iintro ⟨⟨%f2, %hf2, H2⟩, ⟨%f3, %hf3, H3⟩, ⟨%f5, %hf5, H5⟩, ⟨%f7, %hf7, H7⟩, ⟨%f19, %hf19, H19⟩, ⟨⟨%ff, Hf⟩, Hrest⟩, Hw, HW, Hk⟩
  obtain rfl := harg2.eq_unread hf2; obtain rfl := harg3.eq_unread hf3; obtain rfl := harg5.eq_unread hf5; obtain rfl := harg7.eq_unread hf7
  obtain rfl := harg19.eq_unread hf19
  ihave Hsp := (block_split c W (Ring.sl 3 (t.val + 2)) (Ring.bk 16 (t.val + 2))).1 $$ Hw
  icases Hsp with ⟨Hb, Hrest'⟩
  sl_exec (disch := first | sl_exact h0 | sl_exact h1 | sl_exact h2)
  sl_step
  iapply Hk
  isplitl [H2]; · iapply (owns_unread c harg2 _); iexact H2
  isplitl [H3]; · iapply (owns_unread c harg3 _); iexact H3
  isplitl [H5]; · iapply (owns_unread c harg5 _); iexact H5
  isplitl [H7]; · iapply (owns_unread c harg7 _); iexact H7
  isplitl [H19]
  · iexists _; isplitr; swap; · iexact H19
    ipureintro
    refine (read_stored arg19 _ zeros2 _ _ _).trans ?_
    unfold accStep landedV; delta run_middle.sl.r run_middle.sl.r_1 run_middle.sl.r_2 run_middle.sl.r_3 run_middle.sl.v34
    rw [readAt_full harg2 zeros2, readAt_full harg3 zeros2, readAt_full harg5 zeros2, readAt_full harg7 zeros2, readAt_full harg19 zeros2]
  isplitl [Hf Hrest']
  · isplitl [Hf]
    · iexists _; iexact Hf
    iexact Hrest'
  isplitl [Hf_src Hrest]
  · iapply (block_split c W (Ring.sl 3 t.val) (Ring.bk 16 t.val)).2
    isplitl [Hf_src]; · iexact Hf_src
    iexact Hrest
  iexists _; iexact HW

set_option maxHeartbeats 2000000 in
/-- The point before the last: it starts no copy. -/
theorem run_late (h0 : ¬isFirst (grid0.coords t)) (h1 : ¬startsNext (grid0.coords t)) (h2 : ¬isLast (grid0.coords t)) (K : PUnit → sProp 𝕄) :
    iprop(owns (c : Thread nD τ) arg2 fullShare xa ∗ owns (c : Thread nD τ) arg3 fullShare w1 ∗ owns (c : Thread nD τ) arg5 fullShare w2 ∗ owns (c : Thread nD τ) arg7 fullShare w3
        ∗ owns (c : Thread nD τ) arg19 fullShare acc ∗ inFlight c W (Ring.sl 2 t.val) (Ring.sl 3 t.val) (Ring.bk 16 t.val) ∗ owes (c : Thread nD τ) 0 Wt
        ∗ (iprop(owns (c : Thread nD τ) arg2 fullShare xa ∗ owns (c : Thread nD τ) arg3 fullShare w1 ∗ owns (c : Thread nD τ) arg5 fullShare w2 ∗ owns (c : Thread nD τ) arg7 fullShare w3
            ∗ owns (c : Thread nD τ) arg19 fullShare (accStep t w1 w2 w3 xa (landedV c W t) acc)
            ∗ freeSlot c (Ring.sl 2 t.val) ∗ wholeP c W (Ring.sl 3 t.val) ∗ (∃ Wt', owes (c : Thread nD τ) 0 Wt')) -∗ K ⟨⟩))
      ⊢ wp frame (wpE (defs₀ (F := F)) Variants.none c none) Set.univ
          (cc0__mlp_kernel (grid0.coords t) (Memref.whole main_v0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ringM (Memref.isWhole_whole _) arg19 harg19 cc0_scratch2) K := by
  haveI : Fact (¬isFirst (grid0.coords t)) := ⟨h0⟩
  haveI : Fact (¬startsNext (grid0.coords t)) := ⟨h1⟩
  haveI : Fact (¬isLast (grid0.coords t)) := ⟨h2⟩
  simp only [cc0__mlp_kernel_eq_skeleton]; unfold cc0__mlp_kernel_skel
  simp only [k0_part2_eq_skeleton]
  unfold owns
  iintro ⟨⟨%f2, %hf2, H2⟩, ⟨%f3, %hf3, H3⟩, ⟨%f5, %hf5, H5⟩, ⟨%f7, %hf7, H7⟩, ⟨%f19, %hf19, H19⟩, ⟨⟨%ff, Hf⟩, Hrest⟩, HW, Hk⟩
  obtain rfl := harg2.eq_unread hf2; obtain rfl := harg3.eq_unread hf3; obtain rfl := harg5.eq_unread hf5; obtain rfl := harg7.eq_unread hf7
  obtain rfl := harg19.eq_unread hf19
  sl_exec (disch := first | sl_exact h0 | sl_exact h1 | sl_exact h2)
  sl_step
  iapply Hk
  isplitl [H2]; · iapply (owns_unread c harg2 _); iexact H2
  isplitl [H3]; · iapply (owns_unread c harg3 _); iexact H3
  isplitl [H5]; · iapply (owns_unread c harg5 _); iexact H5
  isplitl [H7]; · iapply (owns_unread c harg7 _); iexact H7
  isplitl [H19]
  · iexists _; isplitr; swap; · iexact H19
    ipureintro
    refine (read_stored arg19 _ zeros2 _ _ _).trans ?_
    unfold accStep landedV; delta run_late.sl.r run_late.sl.r_1 run_late.sl.r_2 run_late.sl.r_3 run_late.sl.v34
    rw [readAt_full harg2 zeros2, readAt_full harg3 zeros2, readAt_full harg5 zeros2, readAt_full harg7 zeros2, readAt_full harg19 zeros2]
  isplitl [Hf Hf_dst]
  · isplitl [Hf]; · iexact Hf
    iexists _; iexact Hf_dst
  isplitl [Hf_src Hrest]
  · iapply (block_split c W (Ring.sl 3 t.val) (Ring.bk 16 t.val)).2
    isplitl [Hf_src]; · iexact Hf_src
    iexact Hrest
  iexists _; iexact HW

set_option maxHeartbeats 2000000 in
/-- The last point: it applies the dense head to the finished accumulator. -/
theorem run_last (h0 : ¬isFirst (grid0.coords t)) (h1 : ¬startsNext (grid0.coords t)) (h2 : isLast (grid0.coords t)) (K : PUnit → sProp 𝕄) :
    iprop(owns (c : Thread nD τ) arg2 fullShare xa ∗ owns (c : Thread nD τ) arg3 fullShare w1 ∗ owns (c : Thread nD τ) arg5 fullShare w2 ∗ owns (c : Thread nD τ) arg7 fullShare w3 ∗ owns (c : Thread nD τ) arg9 fullShare y1 ∗ owns (c : Thread nD τ) arg10 fullShare d1 ∗ owns (c : Thread nD τ) arg11 fullShare y2 ∗ owns (c : Thread nD τ) arg12 fullShare d2 ∗ owns (c : Thread nD τ) arg13 fullShare y3 ∗ owns (c : Thread nD τ) arg14 fullShare d3 ∗ owns (c : Thread nD τ) arg15 fullShare y4 ∗ owns (c : Thread nD τ) arg16 fullShare d4
        ∗ owns (c : Thread nD τ) arg19 fullShare acc ∗ (∃ d, owns (c : Thread nD τ) arg17 fullShare d) ∗ inFlight c W (Ring.sl 2 t.val) (Ring.sl 3 t.val) (Ring.bk 16 t.val) ∗ owes (c : Thread nD τ) 0 Wt
        ∗ (iprop(owns (c : Thread nD τ) arg2 fullShare xa ∗ owns (c : Thread nD τ) arg3 fullShare w1 ∗ owns (c : Thread nD τ) arg5 fullShare w2 ∗ owns (c : Thread nD τ) arg7 fullShare w3 ∗ owns (c : Thread nD τ) arg9 fullShare y1 ∗ owns (c : Thread nD τ) arg10 fullShare d1 ∗ owns (c : Thread nD τ) arg11 fullShare y2 ∗ owns (c : Thread nD τ) arg12 fullShare d2 ∗ owns (c : Thread nD τ) arg13 fullShare y3 ∗ owns (c : Thread nD τ) arg14 fullShare d3 ∗ owns (c : Thread nD τ) arg15 fullShare y4 ∗ owns (c : Thread nD τ) arg16 fullShare d4
            ∗ owns (c : Thread nD τ) arg19 fullShare (accStep t w1 w2 w3 xa (landedV c W t) acc)
            ∗ owns (c : Thread nD τ) arg17 fullShare (k0_pay2 (accStep t w1 w2 w3 xa (landedV c W t) acc) y1 d1 y2 d2 y3 d3 y4 d4) ∗ freeSlot c (Ring.sl 2 t.val) ∗ wholeP c W (Ring.sl 3 t.val) ∗ (∃ Wt', owes (c : Thread nD τ) 0 Wt')) -∗ K ⟨⟩))
      ⊢ wp frame (wpE (defs₀ (F := F)) Variants.none c none) Set.univ
          (cc0__mlp_kernel (grid0.coords t) (Memref.whole main_v0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ringM (Memref.isWhole_whole _) arg19 harg19 cc0_scratch2) K := by
  haveI : Fact (¬isFirst (grid0.coords t)) := ⟨h0⟩
  haveI : Fact (¬startsNext (grid0.coords t)) := ⟨h1⟩
  haveI : Fact (isLast (grid0.coords t)) := ⟨h2⟩
  simp only [cc0__mlp_kernel_eq_skeleton]; unfold cc0__mlp_kernel_skel
  simp only [k0_part2_eq_skeleton, k0_part1_eq_skeleton]
  unfold owns
  iintro ⟨⟨%f2, %hf2, H2⟩, ⟨%f3, %hf3, H3⟩, ⟨%f5, %hf5, H5⟩, ⟨%f7, %hf7, H7⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f19, %hf19, H19⟩, ⟨%o0, %f17, %hf17, H17⟩, ⟨⟨%ff, Hf⟩, Hrest⟩, HW, Hk⟩
  obtain rfl := harg2.eq_unread hf2; obtain rfl := harg3.eq_unread hf3; obtain rfl := harg5.eq_unread hf5; obtain rfl := harg7.eq_unread hf7; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  obtain rfl := harg19.eq_unread hf19
  sl_exec (disch := first | sl_exact h0 | sl_exact h1 | sl_exact h2)
  sl_step
  iapply Hk
  isplitl [H2]; · iapply (owns_unread c harg2 _); iexact H2
  isplitl [H3]; · iapply (owns_unread c harg3 _); iexact H3
  isplitl [H5]; · iapply (owns_unread c harg5 _); iexact H5
  isplitl [H7]; · iapply (owns_unread c harg7 _); iexact H7
  isplitl [H9]; · iapply (owns_unread c harg9 _); iexact H9
  isplitl [H10]; · iapply (owns_unread c harg10 _); iexact H10
  isplitl [H11]; · iapply (owns_unread c harg11 _); iexact H11
  isplitl [H12]; · iapply (owns_unread c harg12 _); iexact H12
  isplitl [H13]; · iapply (owns_unread c harg13 _); iexact H13
  isplitl [H14]; · iapply (owns_unread c harg14 _); iexact H14
  isplitl [H15]; · iapply (owns_unread c harg15 _); iexact H15
  isplitl [H16]; · iapply (owns_unread c harg16 _); iexact H16
  isplitl [H19]
  · iexists _; isplitr; swap; · iexact H19
    ipureintro
    refine (read_stored arg19 _ zeros2 _ _ _).trans ?_
    unfold accStep landedV; delta run_last.sl.r run_last.sl.r_1 run_last.sl.r_2 run_last.sl.r_3 run_last.sl.v34
    rw [readAt_full harg2 zeros2, readAt_full harg3 zeros2, readAt_full harg5 zeros2, readAt_full harg7 zeros2, readAt_full harg19 zeros2]
  isplitl [H17]
  · iexists _; isplitr; swap; · iexact H17
    ipureintro
    refine (read_stored arg17 _ zeros2 _ _ _).trans ?_
    delta run_last.sl.r_4
    rw [readAt_full harg9 zeros2, readAt_full harg10 zeros2, readAt_full harg11 zeros2, readAt_full harg12 zeros2, readAt_full harg13 zeros2, readAt_full harg14 zeros2, readAt_full harg15 zeros2, readAt_full harg16 zeros2]
    refine congrArg (fun a => k0_pay2 a y1 d1 y2 d2 y3 d3 y4 d4) ?_
    delta run_last.sl.v71
    refine (View.readCov_full arg19.view _ _ _ _).trans ?_
    unfold accStep landedV; delta run_last.sl.r run_last.sl.r_1 run_last.sl.r_2 run_last.sl.r_3 run_last.sl.v34
    rw [readAt_full harg2 zeros2, readAt_full harg3 zeros2, readAt_full harg5 zeros2, readAt_full harg7 zeros2, readAt_full harg19 zeros2]
  isplitl [Hf Hf_dst]
  · isplitl [Hf]; · iexact Hf
    iexists _; iexact Hf_dst
  isplitl [Hf_src Hrest]
  · iapply (block_split c W (Ring.sl 3 t.val) (Ring.bk 16 t.val)).2
    isplitl [Hf_src]; · iexact Hf_src
    iexact Hrest
  iexists _; iexact HW

set_option maxHeartbeats 2000000 in
/-- The first point: it clears the accumulator, starts the first two copies and then the third. -/
theorem run_first (h0 : isFirst (grid0.coords t)) (h1 : startsNext (grid0.coords t)) (h2 : ¬isLast (grid0.coords t)) (K : PUnit → sProp 𝕄) :
    iprop(owns (c : Thread nD τ) arg2 fullShare xa ∗ owns (c : Thread nD τ) arg3 fullShare w1 ∗ owns (c : Thread nD τ) arg5 fullShare w2 ∗ owns (c : Thread nD τ) arg7 fullShare w3
        ∗ (∃ d, owns (c : Thread nD τ) arg19 fullShare d) ∗ freeSlot c (Ring.sl 2 t.val) ∗ freeSlot c (Ring.sl 2 (t.val + 1)) ∗ wholeP c W (Ring.sl 3 t.val) ∗ wholeP c W (Ring.sl 3 (t.val + 1)) ∗ wholeP c W (Ring.sl 3 (t.val + 2)) ∗ owes (c : Thread nD τ) 0 Wt
        ∗ (iprop(owns (c : Thread nD τ) arg2 fullShare xa ∗ owns (c : Thread nD τ) arg3 fullShare w1 ∗ owns (c : Thread nD τ) arg5 fullShare w2 ∗ owns (c : Thread nD τ) arg7 fullShare w3
            ∗ owns (c : Thread nD τ) arg19 fullShare (accStep t w1 w2 w3 xa (landedV c W t) k0_pay3)
            ∗ inFlight c W (Ring.sl 2 (t.val + 1)) (Ring.sl 3 (t.val + 1)) (Ring.bk 16 (t.val + 1)) ∗ inFlight c W (Ring.sl 2 t.val) (Ring.sl 3 (t.val + 2)) (Ring.bk 16 (t.val + 2)) ∗ wholeP c W (Ring.sl 3 t.val) ∗ (∃ Wt', owes (c : Thread nD τ) 0 Wt')) -∗ K ⟨⟩))
      ⊢ wp frame (wpE (defs₀ (F := F)) Variants.none c none) Set.univ
          (cc0__mlp_kernel (grid0.coords t) (Memref.whole main_v0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ringM (Memref.isWhole_whole _) arg19 harg19 cc0_scratch2) K := by
  haveI : Fact (isFirst (grid0.coords t)) := ⟨h0⟩
  haveI : Fact (startsNext (grid0.coords t)) := ⟨h1⟩
  haveI : Fact (¬isLast (grid0.coords t)) := ⟨h2⟩
  simp only [cc0__mlp_kernel_eq_skeleton]; unfold cc0__mlp_kernel_skel
  simp only [k0_part2_eq_skeleton]
  have hcanon5 := canon5 t h1
  have hcanon6 := canon6 t h1
  have hcanon7 := canon7 t h1
  unfold owns
  iintro ⟨⟨%f2, %hf2, H2⟩, ⟨%f3, %hf3, H3⟩, ⟨%f5, %hf5, H5⟩, ⟨%f7, %hf7, H7⟩, ⟨%a0, %f19, %hf19, H19⟩, ⟨Hc0, %g0, Hs0⟩, ⟨Hc1, %g1, Hs1⟩, Hw0, Hw1, Hw, HW, Hk⟩
  obtain rfl := harg2.eq_unread hf2; obtain rfl := harg3.eq_unread hf3; obtain rfl := harg5.eq_unread hf5; obtain rfl := harg7.eq_unread hf7
  ihave Hsp := (block_split c W (Ring.sl 3 (t.val + 2)) (Ring.bk 16 (t.val + 2))).1 $$ Hw
  icases Hsp with ⟨Hb, Hrest'⟩
  ihave Hsp0 := (block_split c W (Ring.sl 3 t.val) (Ring.bk 16 t.val)).1 $$ Hw0
  icases Hsp0 with ⟨Hb0, Hrest⟩
  ihave Hsp1 := (block_split c W (Ring.sl 3 (t.val + 1)) (Ring.bk 16 (t.val + 1))).1 $$ Hw1
  icases Hsp1 with ⟨Hb1, Hrest1⟩
  have hcanon1 := slot_canon (o := ![0, 0, 0]) t.val (first_slot0 t h0) inb_S2x2048x1024_S1x2048x1024_0_0_0
  have hcanon2 := slot_canon (o := ![1, 0, 0]) (t.val + 1) (first_slot1 t h0) inb_S2x2048x1024_S1x2048x1024_1_0_0
  have hcanon3 := cell_canon (o := ![0]) t.val (first_cell0 t h0) inb_S2_S1_0
  have hcanon4 := cell_canon (o := ![1]) (t.val + 1) (first_cell1 t h0) inb_S2_S1_1
  have hcanon8 := block_canon (o := ![2048, 0]) t.val (first_block0 t h0) inb_S65536x1024_S2048x1024_2048_0
  have hcanon9 := block_canon (o := ![6144, 0]) (t.val + 1) (first_block1 t h0) inb_S65536x1024_S2048x1024_6144_0
  sl_exec (disch := first | sl_exact h0 | sl_exact h1 | sl_exact h2)
  sl_step
  iapply Hk
  isplitl [H2]; · iapply (owns_unread c harg2 _); iexact H2
  isplitl [H3]; · iapply (owns_unread c harg3 _); iexact H3
  isplitl [H5]; · iapply (owns_unread c harg5 _); iexact H5
  isplitl [H7]; · iapply (owns_unread c harg7 _); iexact H7
  isplitl [H19]
  · iexists _; isplitr; swap; · iexact H19
    ipureintro
    refine (read_stored arg19 _ zeros2 _ _ _).trans ?_
    unfold accStep landedV; delta run_first.sl.r run_first.sl.r_1 run_first.sl.r_2 run_first.sl.r_3 run_first.sl.v34 run_first.sl.v60
    delta run_first.sl.dma2
    rw [readAt_full harg2 zeros2, readAt_full harg3 zeros2, readAt_full harg5 zeros2, readAt_full harg7 zeros2]
    delta run_first.sl.H19_1
    exact congrArg _ (View.readCov_full arg19.view _ _ _ _)
  isplitl [Hc1 Hrest1]
  · isplitl [Hc1]
    · iexists _; iexact Hc1
    iexact Hrest1
  isplitl [Hc0 Hrest']
  · isplitl [Hc0]
    · iexists _; iexact Hc0
    iexact Hrest'
  isplitl [Hb0 Hrest]
  · iapply (block_split c W (Ring.sl 3 t.val) (Ring.bk 16 t.val)).2
    isplitl [Hb0]; · iexact Hb0
    iexact Hrest
  iexists _; iexact HW

end Run

end Cert.KernelIdeal.Hand

end
-- ==== Proof.KernelIdeal.Region.lean ====
/-
  The proof data of the kernel's pipeline and its body obligation.  Before point `k` the accumulator holds `accAt k`
  (anything before the first point), and the copies stand as `ringAt` says; the result's buffer is left alone until the
  last point, which fills it with the dense head of the finished accumulator.  The first window reads the array the
  body's own copies read too, so it holds only the left half of that array's share.
-/
module

public import proofs.«01_k».proof.Proof.KernelIdeal.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- The accumulator after the first `k` points. -/
def accAt (c : Dev nD) : ℕ → Vec F S16x10 .f32
  | 0 => k0_pay3
  | k + 1 => if h : k < grid0.N then
      accStep ⟨k, h⟩ (iblk m c 1 ⟨k, h⟩) (iblk m c 3 ⟨k, h⟩) (iblk m c 5 ⟨k, h⟩) (iblk m c 0 ⟨k, h⟩) (landedV c (V m c main_v0) ⟨k, h⟩) (accAt c k)
    else accAt c k

theorem accAt_succ (c : Dev nD) (t : Fin grid0.N) :
    accAt m c (t.val + 1) = accStep t (iblk m c 1 t) (iblk m c 3 t) (iblk m c 5 t) (iblk m c 0 t) (landedV c (V m c main_v0) t) (accAt m c t.val) := by
  rw [accAt, dif_pos t.isLt]

/-- What the last point stores: the dense head of the accumulator. -/
def outAt (c : Dev nD) (t : Fin grid0.N) : Vec F S16x100 .f32 :=
  k0_pay2 (accAt m c (t.val + 1)) (iblk m c 7 t) (iblk m c 8 t) (iblk m c 9 t) (iblk m c 10 t) (iblk m c 11 t) (iblk m c 12 t) (iblk m c 13 t) (iblk m c 14 t)

/-- The invariant before point `k`. -/
def Phi (c : Dev nD) (k : ℕ) : sProp 𝕄 :=
  iprop((if k = 0 then iprop(∃ d, owns (c : Thread nD τ) accM fullShare d) else owns (c : Thread nD τ) accM fullShare (accAt m c k))
    ∗ ringAt c (V m c main_v0) k)

/-- The proof data: the arrays as the region finds them, each input's buffer at its block after the body, the result's
    at the head; the invariant `Phi`; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt m c t
    | ⟨_ + 16, h⟩ => absurd h (Nat.not_lt.2 (Nat.le_add_left _ _))
  Φ t := Phi m c t.val
  q w := if w.val = 0 then fullShare.left else fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

/-- The arrays and what the body leaves, beside no invariant: all that the buffers' contents depend on. -/
def plain (c : Dev nD) : Dat τ (Elt F) Unit ℕ (UR sig nD τ) ℕ cfg0 c where
  A := (dats m 0 c).A
  after := (dats m 0 c).after
  Φ _ := BI.emp
  q _ := fullShare
  owed _ := 0

/-- Only the result's window is ever left alone. -/
theorem leaves_block (c : Dev nD) (t : Fin cfg0.N) : ∀ w : Fin cfg0.W, w.val < 15 →
    (dats m 0 c).leavesExact w t = owns (c : Thread nD τ) ((cfg0.win w).stage (cfg0.slots t w)) fullShare ((dats m 0 c).after w t) := by
  intro w hw
  fin_cases w <;> first | exact absurd hw (by decide) | rfl

theorem live_iff : ∀ t : Fin cfg0.N, cfg0.idle 15 (cfg0.grid.coords t) = false ↔ t.val = 15 := by decide +kernel

section Steps
variable (c : Dev nD) (t : Fin cfg0.N)

/-- A point before the last: the accumulator takes the point's share, the copies move on by one block. -/
theorem step (ht : t.val < 15) (K : PUnit → sProp 𝕄) :
    iprop(owns (c : Thread nD τ) (st0_0 t) fullShare (iblk m c 0 t) ∗ owns (c : Thread nD τ) (st0_1 t) fullShare (iblk m c 1 t) ∗ owns (c : Thread nD τ) (st0_3 t) fullShare (iblk m c 3 t) ∗ owns (c : Thread nD τ) (st0_5 t) fullShare (iblk m c 5 t)
        ∗ Phi m c t.val ∗ (∃ Wt, owes (c : Thread nD τ) 0 Wt)
        ∗ (iprop(owns (c : Thread nD τ) (st0_0 t) fullShare (iblk m c 0 t) ∗ owns (c : Thread nD τ) (st0_1 t) fullShare (iblk m c 1 t) ∗ owns (c : Thread nD τ) (st0_3 t) fullShare (iblk m c 3 t) ∗ owns (c : Thread nD τ) (st0_5 t) fullShare (iblk m c 5 t)
            ∗ Phi m c (t.val + 1) ∗ (∃ Wt, owes (c : Thread nD τ) 0 Wt)) -∗ K ⟨⟩))
      ⊢ wp frame (wpE (defs₀ (F := F)) Variants.none c none) Set.univ (bodyAt0 t) K := by
  unfold bodyAt0 Phi
  rw [if_neg (Nat.succ_ne_zero _), accAt_succ m c t]
  have hnext : ringAt c (V m c main_v0) (t.val + 1) = iprop(role c (V m c main_v0) (t.val + 1) ∗ role c (V m c main_v0) (t.val + 2) ∗ wholeP c (V m c main_v0) (Ring.sl 3 t.val)) := by
    unfold ringAt; rw [if_neg (Nat.succ_ne_zero _), show t.val + 1 + 2 = t.val + 3 from rfl, Ring.sl_add]
  rw [hnext]
  by_cases h0 : t.val = 0
  · have h1 : t.val + 1 < 16 := by omega
    have h2 : t.val + 2 < 16 := by omega
    have hring : ringAt c (V m c main_v0) t.val = iprop((freeSlot c (Ring.sl 2 t.val) ∗ freeSlot c (Ring.sl 2 (t.val + 1))) ∗ wholeP c (V m c main_v0) (Ring.sl 3 t.val) ∗ wholeP c (V m c main_v0) (Ring.sl 3 (t.val + 1)) ∗ wholeP c (V m c main_v0) (Ring.sl 3 (t.val + 2))) := by
      unfold ringAt; rw [if_pos h0, h0]; rfl
    have hacc : accAt m c t.val = k0_pay3 := by rw [h0]; rfl
    rw [if_pos h0, hring, hacc]
    unfold role; rw [if_pos h1, if_pos h2, Ring.sl_add]
    iintro ⟨H0, H1, H3, H5, ⟨Hacc, ⟨Hs0, Hs1⟩, Hw0, Hw1, Hw2⟩, ⟨%Wt, HW⟩, Hk⟩
    iapply (run_first c t (V m c main_v0) _ _ _ _ _ _ _ _ _ _ _ _ _ _ _ _ _ _ _ _ _ _ _ _ _ _ _ _ _ _ _ _ accM (Memref.isWhole_whole _) (iblk m c 0 t) (iblk m c 1 t) (iblk m c 3 t) (iblk m c 5 t) Wt
      ((isFirst_iff t).mpr h0) ((startsNext_iff t).mpr (by omega)) (fun h => by have := (isLast_iff t).mp h; omega) K)
    isplitl [H0]; · iexact H0
    isplitl [H1]; · iexact H1
    isplitl [H3]; · iexact H3
    isplitl [H5]; · iexact H5
    isplitl [Hacc]; · iexact Hacc
    isplitl [Hs0]; · iexact Hs0
    isplitl [Hs1]; · iexact Hs1
    isplitl [Hw0]; · iexact Hw0
    isplitl [Hw1]; · iexact Hw1
    isplitl [Hw2]; · iexact Hw2
    isplitl [HW]; · iexact HW
    iintro ⟨H0, H1, H3, H5, Hacc, Hf1, Hf2, Hw0, HW⟩
    iapply Hk
    isplitl [H0]; · iexact H0
    isplitl [H1]; · iexact H1
    isplitl [H3]; · iexact H3
    isplitl [H5]; · iexact H5
    isplitr [HW]
    · isplitl [Hacc]; · iexact Hacc
      isplitl [Hf1]; · iexact Hf1
      isplitl [Hf2]; · iexact Hf2
      iexact Hw0
    iexact HW
  have hring : ringAt c (V m c main_v0) t.val = iprop(inFlight c (V m c main_v0) (Ring.sl 2 t.val) (Ring.sl 3 t.val) (Ring.bk 16 t.val) ∗ role c (V m c main_v0) (t.val + 1) ∗ wholeP c (V m c main_v0) (Ring.sl 3 (t.val + 2))) := by
    unfold ringAt; rw [if_neg h0]; unfold role; rw [if_pos (show t.val < 16 by omega)]
  rw [if_neg h0, hring]
  by_cases h1 : t.val < 14
  · have h2 : t.val + 2 < 16 := by omega
    have hrole : role c (V m c main_v0) (t.val + 2) = inFlight c (V m c main_v0) (Ring.sl 2 t.val) (Ring.sl 3 (t.val + 2)) (Ring.bk 16 (t.val + 2)) := by
      unfold role; rw [if_pos h2, Ring.sl_add]
    rw [hrole]
    iintro ⟨H0, H1, H3, H5, ⟨Hacc, Hf, Hr, Hw2⟩, ⟨%Wt, HW⟩, Hk⟩
    iapply (run_middle c t (V m c main_v0) _ _ _ _ _ _ _ _ _ _ _ _ _ _ _ _ _ _ _ _ _ _ _ _ _ _ _ _ _ _ _ _ accM (Memref.isWhole_whole _) (iblk m c 0 t) (iblk m c 1 t) (iblk m c 3 t) (iblk m c 5 t) (accAt m c t.val) Wt
      (fun h => h0 ((isFirst_iff t).mp h)) ((startsNext_iff t).mpr h1) (fun h => by have := (isLast_iff t).mp h; omega) K)
    isplitl [H0]; · iexact H0
    isplitl [H1]; · iexact H1
    isplitl [H3]; · iexact H3
    isplitl [H5]; · iexact H5
    isplitl [Hacc]; · iexact Hacc
    isplitl [Hf]; · iexact Hf
    isplitl [Hw2]; · iexact Hw2
    isplitl [HW]; · iexact HW
    iintro ⟨H0, H1, H3, H5, Hacc, Hf, Hw0, HW⟩
    iapply Hk
    isplitl [H0]; · iexact H0
    isplitl [H1]; · iexact H1
    isplitl [H3]; · iexact H3
    isplitl [H5]; · iexact H5
    isplitr [HW]
    · isplitl [Hacc]; · iexact Hacc
      isplitl [Hr]; · iexact Hr
      isplitl [Hf]; · iexact Hf
      iexact Hw0
    iexact HW
  · have hrole : role c (V m c main_v0) (t.val + 2) = iprop(freeSlot c (Ring.sl 2 t.val) ∗ wholeP c (V m c main_v0) (Ring.sl 3 (t.val + 2))) := by
      unfold role; rw [if_neg (by omega), Ring.sl_add]
    rw [hrole]
    iintro ⟨H0, H1, H3, H5, ⟨Hacc, Hf, Hr, Hw2⟩, ⟨%Wt, HW⟩, Hk⟩
    iapply (run_late c t (V m c main_v0) _ _ _ _ _ _ _ _ _ _ _ _ _ _ _ _ _ _ _ _ _ _ _ _ _ _ _ _ _ _ _ _ accM (Memref.isWhole_whole _) (iblk m c 0 t) (iblk m c 1 t) (iblk m c 3 t) (iblk m c 5 t) (accAt m c t.val) Wt
      (fun h => h0 ((isFirst_iff t).mp h)) (fun h => h1 ((startsNext_iff t).mp h)) (fun h => by have := (isLast_iff t).mp h; omega) K)
    isplitl [H0]; · iexact H0
    isplitl [H1]; · iexact H1
    isplitl [H3]; · iexact H3
    isplitl [H5]; · iexact H5
    isplitl [Hacc]; · iexact Hacc
    isplitl [Hf]; · iexact Hf
    isplitl [HW]; · iexact HW
    iintro ⟨H0, H1, H3, H5, Hacc, Hs, Hw0, HW⟩
    iapply Hk
    isplitl [H0]; · iexact H0
    isplitl [H1]; · iexact H1
    isplitl [H3]; · iexact H3
    isplitl [H5]; · iexact H5
    isplitr [HW]
    · isplitl [Hacc]; · iexact Hacc
      isplitl [Hr]; · iexact Hr
      isplitl [Hs Hw2]
      · isplitl [Hs]; · iexact Hs
        iexact Hw2
      iexact Hw0
    iexact HW

/-- The last point: as before, and the result's buffer takes the head of the finished accumulator. -/
theorem step_last (ht : t.val = 15) (K : PUnit → sProp 𝕄) :
    iprop(owns (c : Thread nD τ) (st0_0 t) fullShare (iblk m c 0 t) ∗ owns (c : Thread nD τ) (st0_1 t) fullShare (iblk m c 1 t) ∗ owns (c : Thread nD τ) (st0_3 t) fullShare (iblk m c 3 t) ∗ owns (c : Thread nD τ) (st0_5 t) fullShare (iblk m c 5 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t)
        ∗ (∃ d, owns (c : Thread nD τ) (st0_15 t) fullShare d) ∗ Phi m c t.val ∗ (∃ Wt, owes (c : Thread nD τ) 0 Wt)
        ∗ (iprop(owns (c : Thread nD τ) (st0_0 t) fullShare (iblk m c 0 t) ∗ owns (c : Thread nD τ) (st0_1 t) fullShare (iblk m c 1 t) ∗ owns (c : Thread nD τ) (st0_3 t) fullShare (iblk m c 3 t) ∗ owns (c : Thread nD τ) (st0_5 t) fullShare (iblk m c 5 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t)
            ∗ owns (c : Thread nD τ) (st0_15 t) fullShare (outAt m c t) ∗ Phi m c (t.val + 1) ∗ (∃ Wt, owes (c : Thread nD τ) 0 Wt)) -∗ K ⟨⟩))
      ⊢ wp frame (wpE (defs₀ (F := F)) Variants.none c none) Set.univ (bodyAt0 t) K := by
  unfold bodyAt0 Phi outAt
  rw [if_neg (Nat.succ_ne_zero _), accAt_succ m c t]
  have h0 : t.val ≠ 0 := by omega
  have hnext : ringAt c (V m c main_v0) (t.val + 1) = iprop(role c (V m c main_v0) (t.val + 1) ∗ (freeSlot c (Ring.sl 2 t.val) ∗ wholeP c (V m c main_v0) (Ring.sl 3 (t.val + 2))) ∗ wholeP c (V m c main_v0) (Ring.sl 3 t.val)) := by
    unfold ringAt; rw [if_neg (Nat.succ_ne_zero _), show t.val + 1 + 2 = t.val + 3 from rfl, Ring.sl_add]
    unfold role; rw [if_neg (show ¬ t.val + 1 + 1 < 16 by omega), show t.val + 1 + 1 = t.val + 2 from rfl, Ring.sl_add]
  have hring : ringAt c (V m c main_v0) t.val = iprop(inFlight c (V m c main_v0) (Ring.sl 2 t.val) (Ring.sl 3 t.val) (Ring.bk 16 t.val) ∗ role c (V m c main_v0) (t.val + 1) ∗ wholeP c (V m c main_v0) (Ring.sl 3 (t.val + 2))) := by
    unfold ringAt; rw [if_neg h0]; unfold role; rw [if_pos (show t.val < 16 by omega)]
  rw [if_neg h0, hring, hnext]
  iintro ⟨H0, H1, H3, H5, H7, H8, H9, H10, H11, H12, H13, H14, Ho, ⟨Hacc, Hf, Hr, Hw2⟩, ⟨%Wt, HW⟩, Hk⟩
  iapply (run_last c t (V m c main_v0) _ _ _ _ _ _ _ _ _ _ _ _ _ _ _ _ _ _ _ _ _ _ _ _ _ _ _ _ _ _ _ _ accM (Memref.isWhole_whole _) (iblk m c 0 t) (iblk m c 1 t) (iblk m c 3 t) (iblk m c 5 t) (accAt m c t.val)
    (iblk m c 7 t) (iblk m c 8 t) (iblk m c 9 t) (iblk m c 10 t) (iblk m c 11 t) (iblk m c 12 t) (iblk m c 13 t) (iblk m c 14 t) Wt
    (fun h => h0 ((isFirst_iff t).mp h)) (fun h => by have := (startsNext_iff t).mp h; omega) ((isLast_iff t).mpr ht) K)
  isplitl [H0]; · iexact H0
  isplitl [H1]; · iexact H1
  isplitl [H3]; · iexact H3
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Hacc]; · iexact Hacc
  isplitl [Ho]; · iexact Ho
  isplitl [Hf]; · iexact Hf
  isplitl [HW]; · iexact HW
  iintro ⟨H0, H1, H3, H5, H7, H8, H9, H10, H11, H12, H13, H14, Hacc, Ho, Hs, Hw0, HW⟩
  iapply Hk
  isplitl [H0]; · iexact H0
  isplitl [H1]; · iexact H1
  isplitl [H3]; · iexact H3
  isplitl [H5]; · iexact H5
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [Ho]; · iexact Ho
  isplitr [HW]
  · isplitl [Hacc]; · iexact Hacc
    isplitl [Hr]; · iexact Hr
    isplitl [Hs Hw2]
    · isplitl [Hs]; · iexact Hs
      iexact Hw2
    iexact Hw0
  iexact HW

end Steps

theorem defs₀_row (t : Fin cfg0.N) : defs₀ (F := F) .tc cfg0.body (cfg0.bodyArgs t (cfg0.slots t)) = bodyAt0 t := by
  unfold defs₀; rw [Defs.onTc_tc]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_castSucc m c t, Phi_succ m c t]
  simp only [show ∀ d, (dats m 0 c).before 0 t d = iblk m c 0 t from before0_0_of m (plain m c) rfl (fun _ => rfl) t,
    show ∀ d, (dats m 0 c).before 1 t d = iblk m c 1 t from before0_1_of m (plain m c) rfl (fun _ => rfl) t,
    show ∀ d, (dats m 0 c).before 2 t d = iblk m c 2 t from before0_2_of m (plain m c) rfl (fun _ => rfl) t,
    show ∀ d, (dats m 0 c).before 3 t d = iblk m c 3 t from before0_3_of m (plain m c) rfl (fun _ => rfl) t,
    show ∀ d, (dats m 0 c).before 4 t d = iblk m c 4 t from before0_4_of m (plain m c) rfl (fun _ => rfl) t,
    show ∀ d, (dats m 0 c).before 5 t d = iblk m c 5 t from before0_5_of m (plain m c) rfl (fun _ => rfl) t,
    show ∀ d, (dats m 0 c).before 6 t d = iblk m c 6 t from before0_6_of m (plain m c) rfl (fun _ => rfl) t,
    show ∀ d, (dats m 0 c).before 7 t d = iblk m c 7 t from before0_7_of m (plain m c) rfl (fun _ => rfl) t,
    show ∀ d, (dats m 0 c).before 8 t d = iblk m c 8 t from before0_8_of m (plain m c) rfl (fun _ => rfl) t,
    show ∀ d, (dats m 0 c).before 9 t d = iblk m c 9 t from before0_9_of m (plain m c) rfl (fun _ => rfl) t,
    show ∀ d, (dats m 0 c).before 10 t d = iblk m c 10 t from before0_10_of m (plain m c) rfl (fun _ => rfl) t,
    show ∀ d, (dats m 0 c).before 11 t d = iblk m c 11 t from before0_11_of m (plain m c) rfl (fun _ => rfl) t,
    show ∀ d, (dats m 0 c).before 12 t d = iblk m c 12 t from before0_12_of m (plain m c) rfl (fun _ => rfl) t,
    show ∀ d, (dats m 0 c).before 13 t d = iblk m c 13 t from before0_13_of m (plain m c) rfl (fun _ => rfl) t,
    show ∀ d, (dats m 0 c).before 14 t d = iblk m c 14 t from before0_14_of m (plain m c) rfl (fun _ => rfl) t]
  rw [leaves_block m c t 0 (by decide), show (dats m 0 c).after 0 t = iblk m c 0 t from by dsimp only [dats],
    leaves_block m c t 1 (by decide), show (dats m 0 c).after 1 t = iblk m c 1 t from by dsimp only [dats],
    leaves_block m c t 2 (by decide), show (dats m 0 c).after 2 t = iblk m c 2 t from by dsimp only [dats],
    leaves_block m c t 3 (by decide), show (dats m 0 c).after 3 t = iblk m c 3 t from by dsimp only [dats],
    leaves_block m c t 4 (by decide), show (dats m 0 c).after 4 t = iblk m c 4 t from by dsimp only [dats],
    leaves_block m c t 5 (by decide), show (dats m 0 c).after 5 t = iblk m c 5 t from by dsimp only [dats],
    leaves_block m c t 6 (by decide), show (dats m 0 c).after 6 t = iblk m c 6 t from by dsimp only [dats],
    leaves_block m c t 7 (by decide), show (dats m 0 c).after 7 t = iblk m c 7 t from by dsimp only [dats],
    leaves_block m c t 8 (by decide), show (dats m 0 c).after 8 t = iblk m c 8 t from by dsimp only [dats],
    leaves_block m c t 9 (by decide), show (dats m 0 c).after 9 t = iblk m c 9 t from by dsimp only [dats],
    leaves_block m c t 10 (by decide), show (dats m 0 c).after 10 t = iblk m c 10 t from by dsimp only [dats],
    leaves_block m c t 11 (by decide), show (dats m 0 c).after 11 t = iblk m c 11 t from by dsimp only [dats],
    leaves_block m c t 12 (by decide), show (dats m 0 c).after 12 t = iblk m c 12 t from by dsimp only [dats],
    leaves_block m c t 13 (by decide), show (dats m 0 c).after 13 t = iblk m c 13 t from by dsimp only [dats],
    leaves_block m c t 14 (by decide), show (dats m 0 c).after 14 t = iblk m c 14 t from by dsimp only [dats]]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
  by_cases ht : t.val = 15
  · iapply (step_last m c t ht _)
    isplitl [H0]; · iexact H0
    isplitl [H1]; · iexact H1
    isplitl [H3]; · iexact H3
    isplitl [H5]; · iexact H5
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · icases H15 with ⟨%d15, H15⟩; iexists _; iexact H15
    isplitl [HP]; · iexact HP
    isplitl [HW]; · iexists _; iexact HW
    iintro ⟨H0, H1, H3, H5, H7, H8, H9, H10, H11, H12, H13, H14, H15, HP, ⟨%W', HW⟩⟩
    isplitl [HP]; · iexact HP
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    rw [show (dats m 0 c).leavesExact 15 t = owns (c : Thread nD τ) (st0_15 t) fullShare (outAt m c t) from by
      unfold Dat.leavesExact; rw [(live_iff t).mpr ht]; dsimp only [dats]]
    iexact H15
  · iapply (step m c t (by omega) _)
    isplitl [H0]; · iexact H0
    isplitl [H1]; · iexact H1
    isplitl [H3]; · iexact H3
    isplitl [H5]; · iexact H5
    isplitl [HP]; · iexact HP
    isplitl [HW]; · iexists _; iexact HW
    iintro ⟨H0, H1, H3, H5, HP, ⟨%W', HW⟩⟩
    isplitl [HP]; · iexact HP
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    rw [show (dats m 0 c).leavesExact 15 t = iprop(∃ d, owns (c : Thread nD τ) (st0_15 t) fullShare ((dats m 0 c).before 15 t d)) from by
      unfold Dat.leavesExact
      rw [show cfg0.idle 15 (cfg0.grid.coords t) = true from by simpa using fun h => ht ((live_iff t).mp h),
        show (cfg0.win 15).flush t = false from by
          rw [Bool.eq_false_iff]; intro h; have := (flush0_15 t).mp h; omega]]
    iexact H15

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.KernelIdeal.Run.lean ====
/-
  The launch: seventeen host operations, then the kernel's region.  The region's first window and the body's own copies
  read one array, so the launch deals that array's share in two: the left half to the window, the right half to the
  invariant, where it rides with the copies.
-/
module

public import proofs.«01_k».proof.Proof.KernelIdeal.Region
public import proofs.«01_k».proof.Proof.Gen.KernelIdeal.Launch
public import Idealize.ShloMosaic.Lib.Pipeline.Regions
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The pipeline library's algebra is the left component. -/
abbrev EP : Emb (UR sig nD τ) (MT nD τ sig Unit (Elt F) ℕ (Pipeline.UD sig nD τ) ℕ) := embL

variable (m : (ℓ : Loc nD τ sig) → Buf (Elt F) ℓ) (ρ : Dev nD → PrngReg)

/-- Core `c`'s buffers at launch. -/
abbrev V₀ (c : Dev nD) : Valuation τ sig (Elt F) := fun b => m ((c : Dev nD), b)

/-- The buffers that are not scoped. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The arrays, at the shares the windows hold -/

/-- The share of its array that a window holds. -/
abbrev winShare (w : Fin 16) : PosShare TreeShare := if w.val = 0 then fullShare.left else fullShare

theorem share_eq (c : Dev nD) : ∀ w : Fin cfg0.W, (dats m 0 c).share w = winShare w := by
  intro w; fin_cases w <;> rfl

theorem arrays_eq (c : Dev nD) (G : (w : Fin cfg0.W) → Buf (Elt F) ((cfg0.win w).arr.view.loc (c : Thread nD τ))) :
    (dats m 0 c).arrays G = bigSep Finset.univ fun w => (((c : Thread nD τ).loc (Pipeline.arrRef spec0 w)) ↦{winShare w} G w : sProp 𝕄) := by
  unfold Dat.arrays
  exact bigSep_congr fun w _ => by rw [show (cfg0.win w).arr.view.set = Finset.univ from (launch0.arr_whole w).set_eq_univ, share_eq]

set_option backward.isDefEq.respectTransparency.types false in
/-- What the region is entered with: every window's array at its share, the other half of the array the copies read,
    and the buffers no window names. -/
theorem entry_split (c : Dev nD) : (unscopedBufs c (V m c) : sProp 𝕄)
    ⊢ iprop((dats m 0 c).arrays ((dats m 0 c).arrAt · 0) ∗ (((c : Thread nD τ).loc main_v0) ↦{fullShare.right} V m c main_v0)
      ∗ Pipeline.unscopedRest spec0 c (V m c)) := by
  rw [arrays_eq, Pipeline.unscopedBufs_split cfgs 0 launch0.win.arr_unscoped launch0.win.arr_inj c (V m c), bigSep_W0, bigSep_W0]
  simp only [show ∀ w, (dats m 0 c).arrAt w 0 = V m c (Pipeline.arrRef spec0 w) from fun w => A_eq m c w]
  iintro ⟨⟨H0, Hs⟩, Hr⟩
  ihave H := (pointsTo_share (PosShare.mem_left_op_right fullShare)).1 $$ H0
  icases H with ⟨HL, HR⟩
  isplitl [HL Hs]
  · isplitl [HL]; · iexact HL
    iexact Hs
  isplitl [HR]; · iexact HR
  iexact Hr

/-! ## The launch -/

/-- The kernel's own semaphores: the two slots' cells. -/
abbrev osem : Fin 2 → SemLoc sig := fun | 0 => .dma 17 | 1 => .dma 18
theorem ownSemFacts : Pipeline.OwnSemFacts spec0 osem := by decide

abbrev sems0 (c : Dev nD) : sProp 𝕄 := iprop(cellP c 0 ∗ cellP c 1)

theorem ownSems0_eq (c : Dev nD) :
    (Pipeline.ownSems0 (Ix := Unit) (Name := ℕ) (U := Pipeline.UD sig nD τ) (Lvl := ℕ) (Val := Elt F) (τ := τ) osem c : sProp 𝕄) = sems0 c := by
  rw [sems0, cellP_0, cellP_1]
  exact Pipeline.ownSems0_eq_of_list c osem [0, 1] (by decide) (by decide)

/-- The launch element: the pipeline's cells and transfers; no counter. -/
def u₀ : Pipeline.UD sig nD τ := (initOf (Pipeline.cells cfgs cellOf_inj) (Pipeline.launchToks cfgs cellOf_inj), 1)

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)

/-- The host operations, over the unscoped buffers. -/
def seg0 : Pipeline.HostSeg (Name := ℕ) (U := Pipeline.UD sig nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the region leaves: the arrays at their final contents, the buffers no window names as they were. -/
abbrev Tₙ (c : Dev nD) : sProp 𝕄 :=
  iprop((dats m 0 c).arrays ((dats m 0 c).arrAt · cfg0.N) ∗ Pipeline.unscopedRest spec0 c (V m c))

theorem phi_in (c : Dev nD) : iprop(((((c : Thread nD τ).loc main_v0) ↦{fullShare.right} V m c main_v0) ∗ sems0 c)
    ∗ Pipeline.scopedRest (Ix := Unit) (Name := ℕ) (U := Pipeline.UD sig nD τ) (Lvl := ℕ) (Val := Elt F) spec0 c) ⊢ (Phi m c 0 : sProp 𝕄) := by
  unfold Phi ringAt
  rw [if_pos rfl, if_pos rfl, scopedRest0_eq]
  simp only [owns_whole_eq]
  iintro ⟨⟨Hv, ⟨Hc0, Hc1⟩⟩, ⟨Hring, ⟨%f, Hacc⟩⟩⟩
  ihave Hs := (slots_in c) $$ Hring
  icases Hs with ⟨Hs0, Hs1⟩
  ihave Hw := (whole_split c (V m c main_v0)).1 $$ Hv
  isplitl [Hacc]
  · iexists f, f
    isplitr; · ipureintro; rfl
    iexact Hacc
  isplitl [Hc0 Hc1 Hs0 Hs1]
  · isplitl [Hc0 Hs0]
    · isplitl [Hc0]; · iexact Hc0
      iexact Hs0
    isplitl [Hc1]; · iexact Hc1
    iexact Hs1
  iexact Hw

theorem role_past (c : Dev nD) (W) (j : ℕ) (h : ¬ j < 16) :
    (role (F := F) c W j : sProp 𝕄) = iprop(freeSlot c (Ring.sl 2 j) ∗ wholeP c W (Ring.sl 3 j)) := by unfold role; rw [if_neg h]

theorem phi_out (c : Dev nD) : (Phi m c 16 : sProp 𝕄) ⊢ iprop(sems0 c
    ∗ Pipeline.scopedRest (Ix := Unit) (Name := ℕ) (U := Pipeline.UD sig nD τ) (Lvl := ℕ) (Val := Elt F) spec0 c) := by
  unfold Phi ringAt
  rw [if_neg (by decide), if_neg (by decide), scopedRest0_eq, role_past _ _ _ (by decide), role_past _ _ _ (by decide),
    show Ring.sl 2 16 = 0 from rfl, show Ring.sl 2 (16 + 1) = 1 from rfl]
  simp only [owns_whole_eq]
  iintro ⟨⟨%f, -, Hacc⟩, ⟨⟨⟨Hc0, Hs0⟩, -⟩, ⟨⟨Hc1, Hs1⟩, -⟩, -⟩⟩
  isplitl [Hc0 Hc1]
  · isplitl [Hc0]; · iexact Hc0
    iexact Hc1
  isplitr [Hacc]
  · iapply (slots_out c)
    isplitl [Hs0]; · iexact Hs0
    iexact Hs1
  iexists _; iexact Hacc

set_option backward.isDefEq.respectTransparency.types false in
/-- The region. -/
def reg0 : Pipeline.RegionSeg (pcfgs (F := F)) adm (dats m) () defs₀ Variants.none L lv 0 where
  win := launch0.win.to₀
  block_pos := launch0.block_pos
  stage_whole := launch0.stage_whole
  K := Fin 2
  osem := osem
  ho := ownSemFacts
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop((((c : Thread nD τ).loc main_v0) ↦{fullShare.right} V m c main_v0) ∗ sems0 c)
  Y _ := iprop(emp)
  Z c := Pipeline.unscopedRest spec0 c (V m c)
  hentry c := by
    rw [show StableHlo.held (c : Thread nD τ) ucRefs (StableHlo.after hostOps0 (V₀ m c)) = unscopedBufs c (V m c) from (unscopedBufs_held c _).symm,
      ownSems0_eq]
    iintro ⟨⟨Hub, HO⟩, Hos, -⟩
    ihave H := (entry_split m c) $$ Hub
    icases H with ⟨Ha, Hv, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hv Hos]
    · isplitl [Hv]; · iexact Hv
      iexact Hos
    iexact Hr
  hin c := by
    rw [show (dats m 0 c).Φ 0 = Phi m c 0 from rfl]
    iintro ⟨HX, -, Hr⟩
    iapply (phi_in m c)
    isplitl [HX]; · iexact HX
    iexact Hr
  hout c := by
    rw [ownSems0_eq, show (dats m 0 c).Φ (Fin.last cfg0.N) = Phi m c 16 from rfl]
    iintro H
    isplitr; · iempintro
    iapply (phi_out m c)
    iexact H
  hexit c := by
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

abbrev segs : List (Pipeline.Seg (pcfgs (F := F)) adm (dats m) () defs₀ Variants.none L lv) := [.host (seg0 m), .region (reg0 m)]

/-- The buffers no window names. -/
abbrev restRefs : Finset (Ref sig .tc) := (Finset.univ.filter fun b : Ref sig .tc => ¬ b.isScoped) \ Finset.univ.image (Pipeline.arrRef spec0)

/-- Every array at its final contents, every other buffer as the host operations left it. -/
def Ends (c : Dev nD) (s : MemSt nD τ sig (Elt F)) : Prop :=
  (∀ w : Fin cfg0.W, s.mem ((c : Thread nD τ).loc (Pipeline.arrRef spec0 w)) = (dats m 0 c).arrAt w cfg0.N)
    ∧ ∀ b ∈ restRefs, s.mem ((c : Thread nD τ).loc b) = V m c b

theorem ends_read (c : Dev nD) (s' : Phys nD τ sig (Elt F)) :
    iprop(Tₙ m c ∗ SI s') ⊢ |={Set.univ}=> iprop(⌜Ends m c s'.mem⌝ ∗ SI s' : sProp 𝕄) := by
  rw [Tₙ, arrays_eq]
  unfold Pipeline.unscopedRest
  iintro ⟨⟨Ha, Hr⟩, HSI⟩
  ihave H := (pointsTo_read_all' Finset.univ (fun w : Fin 16 => (c : Thread nD τ).loc (Pipeline.arrRef spec0 w)) ((dats m 0 c).arrAt · cfg0.N) s' winShare) $$ [Ha HSI]
  · isplitl [Ha]; · iexact Ha
    iexact HSI
  icases H with ⟨%ha, HSI⟩
  ihave H := (pointsTo_read_all restRefs (fun b => (c : Thread nD τ).loc b) (V m c) s') $$ [Hr HSI]
  · isplitl [Hr]; · iexact Hr
    iexact HSI
  icases H with ⟨%hr, HSI⟩
  imodintro
  isplitr; · ipureintro; exact ⟨fun w => ha w (Finset.mem_univ w), hr⟩
  iexact HSI

set_option backward.isDefEq.respectTransparency.types false in
/-- From any memory with zero counters every execution ends, as `Ends` says and with every counter at zero. -/
theorem run_main : θ_run defs (onTc (τ := τ) (main (F := F))) (s₀ m ρ) (fun r => (∀ c, Ends m c r.2) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => Ends m c s)
    (hfin := fun c s' => ends_read m c s')
    (hQ := fun _ h hz => ⟨h, funext fun g => hz g (.inr (by revert g; decide))⟩)

/-- Every argument is as it was. -/
abbrev Kept (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)

variable {m}

theorem Ends.rest {c : Dev nD} {s : MemSt nD τ sig (Elt F)} (h : Ends m c s) (b : Ref sig .tc) (hs : b.isScoped = false)
    (hb : ∀ w, Pipeline.arrRef spec0 w ≠ b) : s.mem ((c : Thread nD τ).loc b) = V m c b := h.2 b (Pipeline.mem_restRefs_of b hs hb)
theorem Ends.input {c : Dev nD} {s : MemSt nD τ sig (Elt F)} (h : Ends m c s) (w : Fin cfg0.W) (hw : (cfg0.win w).isOut = false) :
    s.mem ((c : Thread nD τ).loc (Pipeline.arrRef spec0 w)) = V m c (Pipeline.arrRef spec0 w) :=
  (h.1 w).trans (((dats m 0 c).arrAt_in w hw _).trans (A_eq m c w))

theorem Ends.kept {c : Dev nD} {s : MemSt nD τ sig (Elt F)} (h : Ends m c s) : Kept m c s :=
  ⟨(h.rest main_arg0 rfl (by decide)).trans (V_main_arg0 m c),
    (h.rest main_arg1 rfl (by decide)).trans (V_main_arg1 m c),
    (h.rest main_arg2 rfl (by decide)).trans (V_main_arg2 m c),
    (h.rest main_arg3 rfl (by decide)).trans (V_main_arg3 m c),
    (h.rest main_arg4 rfl (by decide)).trans (V_main_arg4 m c),
    (h.rest main_arg5 rfl (by decide)).trans (V_main_arg5 m c),
    (h.rest main_arg6 rfl (by decide)).trans (V_main_arg6 m c),
    (h.input 7 rfl).trans (V_main_arg7 m c),
    (h.rest main_arg8 rfl (by decide)).trans (V_main_arg8 m c),
    (h.input 9 rfl).trans (V_main_arg9 m c),
    (h.rest main_arg10 rfl (by decide)).trans (V_main_arg10 m c),
    (h.input 11 rfl).trans (V_main_arg11 m c),
    (h.rest main_arg12 rfl (by decide)).trans (V_main_arg12 m c),
    (h.input 13 rfl).trans (V_main_arg13 m c),
    (h.rest main_arg14 rfl (by decide)).trans (V_main_arg14 m c)⟩

/-- The result is the last point's store: its window is the whole array, written back once. -/
theorem Ends.result {c : Dev nD} {s : MemSt nD τ sig (Elt F)} (h : Ends m c s) :
    s.mem ((c : Thread nD τ).loc main_v15) = outAt m c ⟨15, by decide⟩ := by
  refine (h.1 15).trans ?_
  refine (dats m 0 c).arrAt_eq_of_after_last 15 ⟨15, by decide⟩ (by decide +kernel) _ fun j => ?_
  dsimp only [dats]
  rfl

variable (m)

/-- The frame: every argument as it was and every counter at zero. -/
theorem run_frame : θ_run defs (onTc (τ := τ) (main (F := F))) ⟨m, fun _ => 0, ρ⟩ (fun r => (∀ c, Kept m c r.2) ∧ r.2.sem = fun _ => 0) :=
  (θ_run defs _ _).mono (fun _ h => ⟨fun c => (h.1 c).kept, h.2⟩) (run_main m ρ)

/-- The value: every argument as it was and the result at the last point's store. -/
theorem run_value : θ_run defs (onTc (τ := τ) (main (F := F))) ⟨m, fun _ => 0, ρ⟩
    (fun r => ∀ c : Dev nD, r.2.mem ((c.tc : Thread nD τ).loc main_v15) = outAt m c ⟨15, by decide⟩ ∧ Kept m c r.2) :=
  (θ_run defs _ _).mono (fun _ h c => ⟨(h.1 c).result, (h.1 c).kept⟩) (run_main m ρ)

end Cert.KernelIdeal.Hand

end
-- ==== Proof.Same.lean ====
/-
  No rewrite was applied to the kernel to read it over the extended reals, so the two printed programs are one text, generic
  in its floats: their functions and their body tables are equal at every choice of floats, and what is proved of the
  one at every choice holds of the other.
-/
module

public import proofs.«01_k».proof.Defs
public import proofs.«01_k».proof.Proof.Gen.Kernel
public import proofs.«01_k».proof.Proof.KernelIdeal.Run

@[expose] public section

set_option maxRecDepth 65536
set_option maxHeartbeats 2000000

noncomputable section

namespace Cert.Hand

open Idealize.ShloMosaic Idealize.SL.Sem

variable {F : FTy → Type} [FloatOps F]

/-- The host functions are the same. -/
theorem main_eq : Cert.Kernel.main (F := F) = Cert.KernelIdeal.main (F := F) := rfl

/-- The one body label runs the same function on the same operands. -/
theorem bodies_eq : Cert.Kernel.defs₀ (F := F) = Cert.KernelIdeal.defs₀ (F := F) := by
  refine congrArg Defs.onTc (funext fun l => funext fun a => ?_)
  obtain rfl : l = 0 := Subsingleton.elim _ _
  obtain ⟨t, s⟩ := a
  rfl

/-- The body tables, with the pipeline's labels, are the same. -/
theorem defs_eq : Cert.Kernel.defs (F := F) = Cert.KernelIdeal.defs (F := F) :=
  congrArg (Pipeline.defs Cert.KernelIdeal.pcfgs) bodies_eq

/-- The kernel ends without fault, keeps its arguments and leaves every semaphore counter at zero. -/
theorem frame_kernel : Cert.quiescent_Kernel := fun m ρ _ =>
  have h := Cert.KernelIdeal.Hand.run_frame m ρ
  have e : θ_run Cert.KernelIdeal.defs (onTc Cert.KernelIdeal.main) = θ_run (Cert.Kernel.defs (F := Bits)) (onTc Cert.Kernel.main) :=
    (congrFun (congrArg θ_run defs_eq.symm) _).trans (congrArg (fun p => θ_run (Cert.Kernel.defs (F := Bits)) (onTc p)) main_eq.symm)
  by
    rw [e] at h
    exact h

end Cert.Hand

end
-- ==== Proof.Algebra.lean ====
/-
  The algebra of the row network over the extended reals.

  A row of the input goes through three layers, each a product with a matrix and then the maximum with zero. The
  kernel multiplies the first matrix by 2048 and divides the second one by 2048; a positive real factor passes through
  a sum and through the maximum with zero, infinities included, so the two changes cancel.
-/
module

public import Idealize.ShloMosaic.PureOps.Ideal
public import Idealize.ShloMosaic.PureOps.Ideal.Laws

@[expose] public section

open scoped BigOperators
open Idealize.ShloMosaic

namespace Cert.Algebra

/-- One layer of a row: the product with the matrix `w`, then the maximum with zero. -/
noncomputable def layer {K N : ℕ} (w : Fin K → Fin N → EReal) (x : Fin K → EReal) (n : Fin N) : EReal :=
  max (∑ k, x k * w k n) 0

/-- The three layers of a row. -/
noncomputable def row (w1 : Fin 1024 → Fin 30 → EReal) (w2 : Fin 30 → Fin 20 → EReal) (w3 : Fin 20 → Fin 10 → EReal)
    (x : Fin 1024 → EReal) : Fin 10 → EReal :=
  layer w3 (layer w2 (layer w1 x))

/-- A real factor that is not negative passes through a finite sum. -/
theorem mul_sum_of_nonneg {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A factor that is not negative passes through the maximum with zero. -/
theorem mul_max_zero {c : ℝ} (hc : 0 ≤ c) (a : EReal) : (c : EReal) * max a 0 = max ((c : EReal) * a) 0 := by
  have hm : Monotone fun b : EReal => (c : EReal) * b :=
    fun a b h => mul_le_mul_of_nonneg_left h (EReal.coe_nonneg.mpr hc)
  simpa using hm.map_max (a := a) (b := 0)

/-- A layer whose matrix is multiplied by a factor gives its values multiplied by that factor. -/
theorem layer_scaled {K N : ℕ} (w : Fin K → Fin N → EReal) (x : Fin K → EReal) (n : Fin N) {c : ℝ} (hc : 0 ≤ c) :
    layer (fun k n => w k n * (c : EReal)) x n = (c : EReal) * layer w x n := by
  unfold layer
  rw [mul_max_zero hc, mul_sum_of_nonneg _ _ hc]
  exact congrArg (max · 0) (Finset.sum_congr rfl fun k _ => by rw [← mul_assoc, mul_comm])

/-- A layer of values multiplied by a factor, its matrix divided by that factor, is the layer of the values. -/
theorem layer_unscaled {K N : ℕ} (w : Fin K → Fin N → EReal) (x : Fin K → EReal) (n : Fin N) {c : ℝ} (hc : c ≠ 0) :
    layer (fun k n => Ideal.div (w k n) (c : EReal)) (fun k => (c : EReal) * x k) n = layer w x n := by
  unfold layer
  refine congrArg (max · 0) (Finset.sum_congr rfl fun k _ => ?_)
  have h1 : (c : EReal) * ((1 / c : ℝ) : EReal) = 1 := by
    rw [← EReal.coe_mul, mul_one_div_cancel hc, EReal.coe_one]
  dsimp only
  rw [Ideal.div_coe hc, mul_comm (w k n), ← mul_assoc, mul_right_comm (c : EReal) (x k), h1, one_mul]

/-- The row network with its first matrix multiplied by a positive factor and its second one divided by it. -/
theorem row_scaled (w1 : Fin 1024 → Fin 30 → EReal) (w2 : Fin 30 → Fin 20 → EReal) (w3 : Fin 20 → Fin 10 → EReal)
    (x : Fin 1024 → EReal) {c : ℝ} (hc : 0 < c) :
    row (fun k n => w1 k n * (c : EReal)) (fun k n => Ideal.div (w2 k n) (c : EReal)) w3 x = row w1 w2 w3 x := by
  unfold row
  rw [show layer (fun k n => w1 k n * (c : EReal)) x = fun n => (c : EReal) * layer w1 x n from
    funext fun n => layer_scaled w1 x n hc.le]
  rw [show layer (fun k n => Ideal.div (w2 k n) (c : EReal)) (fun k => (c : EReal) * layer w1 x k) = layer w2 (layer w1 x) from
    funext fun n => layer_unscaled w2 (layer w1 x) n hc.ne']

/-- The pattern of 2048.0 is the real 2048. -/
theorem ofBits_2048 : Ideal.ofBits .f32 0x45000000#32 = ((2048 : ℝ) : EReal) := by
  simp only [Ideal.ofBits, Ideal.ieee, show (BitVec.extractLsb' 31 1 0x45000000#32 == 1#1) = false from by decide,
    show (BitVec.extractLsb' 23 8 0x45000000#32).toNat = 138 from by decide,
    show (BitVec.extractLsb' 0 23 0x45000000#32).toNat = 0 from by decide]
  norm_num

/-- A sum over 4096 rows is the sum over the first 2048 and the sum over the other 2048. -/
theorem sum_halves (f : Fin 4096 → EReal) :
    ∑ l, f l = ∑ r : Fin 2048, f ⟨r.val, by omega⟩ + ∑ r : Fin 2048, f ⟨2048 + r.val, by omega⟩ :=
  Fin.sum_univ_add (a := 2048) (b := 2048) f

/-- The head: three layers with a bias each, and a fourth one that ends in the logistic function. -/
noncomputable def head (w4 : Fin 10 → Fin 50 → EReal) (b4 : Fin 50 → EReal) (w5 : Fin 50 → Fin 100 → EReal) (b5 : Fin 100 → EReal)
    (w6 : Fin 100 → Fin 200 → EReal) (b6 : Fin 200 → EReal) (w7 : Fin 200 → Fin 100 → EReal) (b7 : Fin 100 → EReal)
    (a : Fin 10 → EReal) (n : Fin 100) : EReal :=
  Ideal.logistic (∑ k6, max (∑ k5, max (∑ k4, max (∑ k, a k * w4 k k4 + b4 k4) 0 * w5 k4 k5 + b5 k5) 0 * w6 k5 k6 + b6 k6) 0 * w7 k6 n + b7 n)

end Cert.Algebra

end
-- ==== Proof.KernelIdeal.Payload.lean ====
/-
  The body's payloads over the extended reals, read at an index.
-/
module

public import proofs.«01_k».proof.Proof.Algebra
public import proofs.«01_k».proof.Proof.Gen.KernelIdeal.Skeleton
public import Idealize.ShloMosaic.Lib.Pointwise

@[expose] public section

set_option maxRecDepth 16384

namespace Cert.KernelIdeal.Hand

open Idealize.ShloMosaic Cert.KernelIdeal Cert.Algebra
open scoped BigOperators

/-- A matrix as a function of its row and its column. -/
abbrev mat {K N : ℕ} (w : (⟨2, ![K, N]⟩ : Shape).Idx → EReal) : Fin K → Fin N → EReal := fun k n => w (ix2 k n)

theorem pay4_eq (w : Vec Ideal S1024x30 .fp8e4m3) : Gen.k0_pay4 (F := Ideal) w = w := by
  funext j
  pointwise [Gen.k0_pay4]

theorem pay5_eq (w : Vec Ideal S30x20 .bf16) : Gen.k0_pay5 (F := Ideal) w = w := by
  funext j
  pointwise [Gen.k0_pay5]

theorem pay6_eq (w : Vec Ideal S20x10 .bf16) : Gen.k0_pay6 (F := Ideal) w = w := by
  funext j
  pointwise [Gen.k0_pay6]

theorem pay3_apply (b : Fin 16) (j : Fin 10) : Gen.k0_pay3 (F := Ideal) (ix2 b j) = 0 := by
  pointwise [Gen.k0_pay3]

/-- The sum over the rows of the staged block. -/
theorem pay7_apply (w1 : Vec Ideal S1024x30 .fp8e4m3) (w2 : Vec Ideal S30x20 .bf16) (w3 : Vec Ideal S20x10 .bf16)
    (xa : Vec Ideal S2048x1024 .f32) (j : Fin 10) :
    Gen.k0_pay7 (F := Ideal) w1 w2 w3 xa (ix2 0 j) = ∑ r : Fin 2048, row (mat w1) (mat w2) (mat w3) (fun k => xa (ix2 r k)) j := by
  pointwise [Gen.k0_pay7]
  rw [pay4_eq, pay5_eq, pay6_eq]
  rfl

/-- The one-hot entry of sequence `b` at point `t`. -/
theorem onehot (b t : Fin 16) :
    (FloatOps.sitofp (F := Ideal) FTy.f32 (BitVec.setWidth 32 (IntOp.cmpi CmpIPredicate.eq (BitVec.ofNat 32 b.val) (BitVec.ofNat 32 t.val))))
      = if b = t then (1 : EReal) else 0 := by
  have key : ∀ b t : Fin 16, (BitVec.setWidth 32 (IntOp.cmpi CmpIPredicate.eq (BitVec.ofNat 32 b.val) (BitVec.ofNat 32 t.val))).toInt
      = if b = t then 1 else 0 := by decide
  show ((((BitVec.setWidth 32 (IntOp.cmpi CmpIPredicate.eq (BitVec.ofNat 32 b.val) (BitVec.ofNat 32 t.val))).toInt : ℝ)) : EReal) = _
  rw [key]
  split <;> norm_num

/-- One point's update: the row of the point's sequence gains the sums over both halves. -/
theorem pay1_apply (t : Fin 16) (w1 : Vec Ideal S1024x30 .fp8e4m3) (w2 : Vec Ideal S30x20 .bf16) (w3 : Vec Ideal S20x10 .bf16)
    (s : Vec Ideal S1x10 .f32) (xb : Vec Ideal S1x2048x1024 .f32) (acc : Vec Ideal S16x10 .f32) (b : Fin 16) (j : Fin 10) :
    Gen.k0_pay1 (F := Ideal) (BitVec.ofNat 32 t.val) w1 w2 w3 s xb acc (ix2 b j)
      = acc (ix2 b j) + (if b = t then (1 : EReal) else 0)
          * (s (ix2 0 j) + ∑ r : Fin 2048, row (mat w1) (mat w2) (mat w3) (fun k => xb (ix3 0 r k)) j) := by
  pointwise [Gen.k0_pay1]
  rw [onehot]
  rfl

/-- The head of the network on the sums. -/
theorem pay2_apply (acc : Vec Ideal S16x10 .f32) (w4 : Vec Ideal S10x50 .f32) (b4 : Vec Ideal S1x50 .f32) (w5 : Vec Ideal S50x100 .f32)
    (b5 : Vec Ideal S1x100 .f32) (w6 : Vec Ideal S100x200 .f32) (b6 : Vec Ideal S1x200 .f32) (w7 : Vec Ideal S200x100 .f32)
    (b7 : Vec Ideal S1x100 .f32) (b : Fin 16) (n : Fin 100) :
    Gen.k0_pay2 (F := Ideal) acc w4 b4 w5 b5 w6 b6 w7 b7 (ix2 b n)
      = head (mat w4) (fun k => b4 (ix2 0 k)) (mat w5) (fun k => b5 (ix2 0 k)) (mat w6) (fun k => b6 (ix2 0 k))
          (mat w7) (fun k => b7 (ix2 0 k)) (fun k => acc (ix2 b k)) n := by
  pointwise [Gen.k0_pay2]
  rfl

end Cert.KernelIdeal.Hand

end
-- ==== Proof.KernelIdeal.Blocks.lean ====
/-
  What the windows and the body's own copies read, over the extended reals: the arrays the host operations leave, in
  terms of the arguments, and each block as elements of its array.
-/
module

public import proofs.«01_k».proof.Proof.KernelIdeal.Region
public import proofs.«01_k».proof.Proof.KernelIdeal.Payload
public import Idealize.ShloMosaic.Lib.Pointwise
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- Argument `b` of device `c`. -/
abbrev arg (b : Ref sig .tc) : Buf (Elt Ideal) ((c : Thread nD τ).loc b) := m ((c : Thread nD τ).loc b)

/-! ## The arrays the host operations leave -/

theorem V_rows (b : Fin 16) (l : Fin 4096) (k : Fin 1024) (r : Fin 65536) (hr : r.val = 4096 * b.val + l.val) :
    (V m c main_v0 : Vec Ideal S65536x1024 .f32) (ix2 r k) = (arg m c main_arg0 : Vec Ideal S16x4096x1024 .f32) (ix3 b l k) := by
  unfold V
  after_reads_at
  exact congrArg (arg m c main_arg0 : Vec Ideal S16x4096x1024 .f32) (congrArg₂ (fun x y => ix3 x y k)
    (Fin.ext (by show r.val / 4096 = b.val; omega)) (Fin.ext (by show r.val % 4096 = l.val; omega)))

theorem V_w1 (k : Fin 1024) (n : Fin 30) :
    mat (V m c main_v10) k n = mat (arg m c main_arg1) k n * Ideal.ofBits .f32 0x45000000#32 := by
  unfold V mat
  after_reads_at

theorem V_w2 (k : Fin 30) (n : Fin 20) :
    mat (V m c main_v13) k n = Ideal.div (mat (arg m c main_arg3) k n) (Ideal.ofBits .f32 0x45000000#32) := by
  unfold V mat
  after_reads_at

theorem V_w3 (k : Fin 20) (n : Fin 10) :
    (V m c main_v14 : Vec Ideal S20x10 .bf16) (ix2 k n) = (arg m c main_arg5 : Vec Ideal S20x10 .f32) (ix2 k n) := by
  unfold V
  after_reads_at

theorem V_b4 (k : Fin 50) : (V m c main_v4 : Vec Ideal S1x50 .f32) (ix2 0 k) = (arg m c main_arg8 : Vec Ideal S50 .f32) (ix1 k) := by
  unfold V
  after_reads_at

theorem V_b5 (k : Fin 100) : (V m c main_v5 : Vec Ideal S1x100 .f32) (ix2 0 k) = (arg m c main_arg10 : Vec Ideal S100 .f32) (ix1 k) := by
  unfold V
  after_reads_at

theorem V_b6 (k : Fin 200) : (V m c main_v6 : Vec Ideal S1x200 .f32) (ix2 0 k) = (arg m c main_arg12 : Vec Ideal S200 .f32) (ix1 k) := by
  unfold V
  after_reads_at

theorem V_b7 (k : Fin 100) : (V m c main_v7 : Vec Ideal S1x100 .f32) (ix2 0 k) = (arg m c main_arg14 : Vec Ideal S100 .f32) (ix1 k) := by
  unfold V
  after_reads_at

/-! ## The windows' blocks -/

/-- A block whose place in its array is the array's own index is the array. -/
theorem read_whole {α : Type} {s : Shape} (W : s.Idx → α) (e : s.Idx → s.Idx) (h : ∀ j a, (e j a).val = 0 + 1 * (j a).val) :
    (fun j => W (e j)) = W :=
  funext fun j => congrArg W (funext fun a => Fin.ext (by rw [h]; omega))

theorem iblk_w1 (t : Fin cfg0.N) : iblk m c 1 t = V m c main_v10 :=
  read_whole (s := S1024x30) (V m c main_v10) _ fun _ => Fin.forall_fin_two.mpr ⟨rfl, rfl⟩

theorem iblk_w2 (t : Fin cfg0.N) : iblk m c 3 t = V m c main_v13 :=
  read_whole (s := S30x20) (V m c main_v13) _ fun _ => Fin.forall_fin_two.mpr ⟨rfl, rfl⟩

theorem iblk_w3 (t : Fin cfg0.N) : iblk m c 5 t = V m c main_v14 :=
  read_whole (s := S20x10) (V m c main_v14) _ fun _ => Fin.forall_fin_two.mpr ⟨rfl, rfl⟩

theorem iblk_w4 (t : Fin cfg0.N) : iblk m c 7 t = arg m c main_arg7 :=
  (read_whole (s := S10x50) (V m c main_arg7) _ fun _ => Fin.forall_fin_two.mpr ⟨rfl, rfl⟩).trans (V_main_arg7 m c)

theorem iblk_b4 (t : Fin cfg0.N) : iblk m c 8 t = V m c main_v4 :=
  read_whole (s := S1x50) (V m c main_v4) _ fun _ => Fin.forall_fin_two.mpr ⟨rfl, rfl⟩

theorem iblk_w5 (t : Fin cfg0.N) : iblk m c 9 t = arg m c main_arg9 :=
  (read_whole (s := S50x100) (V m c main_arg9) _ fun _ => Fin.forall_fin_two.mpr ⟨rfl, rfl⟩).trans (V_main_arg9 m c)

theorem iblk_b5 (t : Fin cfg0.N) : iblk m c 10 t = V m c main_v5 :=
  read_whole (s := S1x100) (V m c main_v5) _ fun _ => Fin.forall_fin_two.mpr ⟨rfl, rfl⟩

theorem iblk_w6 (t : Fin cfg0.N) : iblk m c 11 t = arg m c main_arg11 :=
  (read_whole (s := S100x200) (V m c main_arg11) _ fun _ => Fin.forall_fin_two.mpr ⟨rfl, rfl⟩).trans (V_main_arg11 m c)

theorem iblk_b6 (t : Fin cfg0.N) : iblk m c 12 t = V m c main_v6 :=
  read_whole (s := S1x200) (V m c main_v6) _ fun _ => Fin.forall_fin_two.mpr ⟨rfl, rfl⟩

theorem iblk_w7 (t : Fin cfg0.N) : iblk m c 13 t = arg m c main_arg13 :=
  (read_whole (s := S200x100) (V m c main_arg13) _ fun _ => Fin.forall_fin_two.mpr ⟨rfl, rfl⟩).trans (V_main_arg13 m c)

theorem iblk_b7 (t : Fin cfg0.N) : iblk m c 14 t = V m c main_v7 :=
  read_whole (s := S1x100) (V m c main_v7) _ fun _ => Fin.forall_fin_two.mpr ⟨rfl, rfl⟩

theorem index_rows : ∀ t : Fin grid0.N, win0_0.index t 0 = 2 * t.val ∧ win0_0.index t 1 = 0 := by decide +kernel

/-- The staged half: row `r` of point `t`'s block is row `4096 t + r` of the flattened input. -/
theorem iblk_rows (t : Fin grid0.N) (r : Fin 2048) (k : Fin 1024) (q : Fin 65536) (hq : q.val = 4096 * t.val + r.val) :
    (iblk m c 0 t : Vec Ideal S2048x1024 .f32) (ix2 r k) = (V m c main_v0 : Vec Ideal S65536x1024 .f32) (ix2 q k) := by
  unfold iblk
  show (V m c main_v0 : Vec Ideal S65536x1024 .f32) (((cfg0.win 0).blk t).view.emb (ix2 r k)) = _
  refine congrArg (V m c main_v0 : Vec Ideal S65536x1024 .f32) (funext fun a => Fin.ext ?_)
  match a with
  | ⟨0, _⟩ => show win0_0.index t 0 * 2048 + 1 * r.val = q.val; rw [(index_rows t).1]; omega
  | ⟨1, _⟩ => show win0_0.index t 1 * 1024 + 1 * k.val = k.val; rw [(index_rows t).2]; omega

theorem drop_unit (X : Vec Ideal S1x2048x1024 .f32) (r : Fin 2048) (k : Fin 1024) :
    shapeCast S2048x1024 X shapeCasts_S1x2048x1024_S2048x1024 (ix2 r k) = X (ix3 0 r k) := by
  pointwise

/-- Loading a slot through the ring reads what the slot holds. -/
theorem load_slot (s : Fin 2) (off : Fin 3 → ℕ) (h : off = ![s.val, 0, 0]) (inb : ∀ a, off a + S1x2048x1024.size a ≤ S2x2048x1024.size a)
    (f : Buf (Elt Ideal) ((slotM s).view.loc (c : Thread nD τ))) (r : Fin 2048) (k : Fin 1024) :
    (View.readAt (Elt Ideal) ringM.view (Rect.unit (s := S2x2048x1024) off S1x2048x1024.size inb).toLoadRect f : Vec Ideal S1x2048x1024 .f32) (ix3 0 r k)
      = (slotM s).view.read (Elt Ideal) f (ix2 r k) := by
  subst h
  exact (drop_unit (View.readAt (Elt Ideal) ringM.view
    (Rect.unit (s := S2x2048x1024) ![s.val, 0, 0] S1x2048x1024.size inb).toLoadRect f) r k).symm.trans
    (congrFun (Memref.read_squeeze_slice ringM (Rect.unit (s := S2x2048x1024) ![s.val, 0, 0] S1x2048x1024.size (slot_inb s)) (fun _ => rfl)
      squeezes_S1x2048x1024_S2048x1024 shapeCasts_S1x2048x1024_S2048x1024 f) (ix2 r k)).symm

/-- The copied half: row `r` of the slot as loaded at point `t` is row `4096 t + 2048 + r` of the flattened input. -/
theorem landed_rows (W : Buf (Elt Ideal) (srcM.view.loc (c : Thread nD τ))) (t : Fin grid0.N) (r : Fin 2048) (k : Fin 1024)
    (q : Fin 65536) (hq : q.val = 4096 * t.val + 2048 + r.val) :
    landedV (F := Ideal) c W t (ix3 0 r k) = (W : Vec Ideal S65536x1024 .f32) (ix2 q k) := by
  have h1 := load_slot c (Ring.sl 2 t.val) _ (off4_sl t) (k0_off4_inb (grid0.coords t))
    (landed c W (Ring.sl 2 t.val) (Ring.bk 16 t.val) (slotM (Ring.sl 2 t.val)).view.junk) r k
  refine h1.trans ((congrFun (View.read_writes_whole _ _ _) (ix2 r k)).trans ?_)
  show (W : Vec Ideal S65536x1024 .f32) ((blockM (Ring.bk 16 t.val)).view.emb (ix2 r k)) = _
  refine congrArg (W : Vec Ideal S65536x1024 .f32) (funext fun a => Fin.ext ?_)
  have hb : (Ring.bk 16 t.val).val = t.val := Ring.bk_val t.isLt
  match a with
  | ⟨0, _⟩ => show 4096 * (Ring.bk 16 t.val).val + 2048 + 1 * r.val = q.val; omega
  | ⟨1, _⟩ => show 0 + 1 * k.val = k.val; omega

end Cert.KernelIdeal.Hand

end
-- ==== Proof.KernelIdeal.Value.lean ====
/-
  The kernel's result over the extended reals: the head of the network on each sequence's sum over its 4096 rows.
-/
module

public import proofs.«01_k».proof.Proof.KernelIdeal.Blocks

@[expose] public section

set_option maxRecDepth 16384

noncomputable section

namespace Cert.KernelIdeal.Hand

open Cert.KernelIdeal Cert.KernelIdeal.Gen Cert.Algebra
open Idealize.ShloMosaic Idealize.ShloMosaic.TcCoe
open scoped BigOperators

variable (m : (ℓ : Loc nD τ sig) → Buf (Elt Ideal) ℓ) (c : Dev nD)

/-- Row `l` of sequence `b` of the input. -/
def inputRow (b : Fin 16) (l : Fin 4096) (k : Fin 1024) : EReal := (arg m c main_arg0 : Vec Ideal S16x4096x1024 .f32) (ix3 b l k)

/-- The row network of the arguments on row `l` of sequence `b`. -/
def rowOut (b : Fin 16) (l : Fin 4096) : Fin 10 → EReal :=
  row (mat (arg m c main_arg1)) (mat (arg m c main_arg3)) (mat (arg m c main_arg5)) (inputRow m c b l)

/-- The staged matrices, one scaled up and the other down, give the row network of the arguments. -/
theorem row_staged (t : Fin cfg0.N) (x : Fin 1024 → EReal) :
    row (mat (iblk m c 1 t : Vec Ideal S1024x30 .fp8e4m3)) (mat (iblk m c 3 t : Vec Ideal S30x20 .bf16)) (mat (iblk m c 5 t : Vec Ideal S20x10 .bf16)) x
      = row (mat (arg m c main_arg1)) (mat (arg m c main_arg3)) (mat (arg m c main_arg5)) x := by
  rw [iblk_w1, iblk_w2, iblk_w3,
    show mat (V m c main_v10) = fun k n => mat (arg m c main_arg1) k n * ((2048 : ℝ) : EReal) from
      funext fun k => funext fun n => (V_w1 m c k n).trans (by rw [ofBits_2048]),
    show mat (V m c main_v13) = fun k n => Ideal.div (mat (arg m c main_arg3) k n) ((2048 : ℝ) : EReal) from
      funext fun k => funext fun n => (V_w2 m c k n).trans (by rw [ofBits_2048]),
    show mat (V m c main_v14) = mat (arg m c main_arg5) from funext fun k => funext fun n => V_w3 m c k n]
  exact row_scaled _ _ _ x (by norm_num)

theorem coord_eq : ∀ t : Fin grid0.N, (grid0.coords t 0).val = t.val := by decide +kernel

/-- One point's step on any blocks: the row of the point's sequence gains the sums over both blocks. -/
theorem accStep_read (t : Fin grid0.N) (w1 : Vec Ideal S1024x30 .fp8e4m3) (w2 : Vec Ideal S30x20 .bf16) (w3 : Vec Ideal S20x10 .bf16)
    (xa : Vec Ideal S2048x1024 .f32) (xb : Vec Ideal S1x2048x1024 .f32) (acc : Vec Ideal S16x10 .f32) (b : Fin 16) (j : Fin 10) :
    accStep (F := Ideal) t w1 w2 w3 xa xb acc (ix2 b j)
      = acc (ix2 b j) + (if b.val = t.val then (1 : EReal) else 0)
          * (∑ r : Fin 2048, row (mat w1) (mat w2) (mat w3) (fun k => xa (ix2 r k)) j
              + ∑ r : Fin 2048, row (mat w1) (mat w2) (mat w3) (fun k => xb (ix3 0 r k)) j) := by
  unfold accStep
  rw [coord_eq t, pay4_eq, pay5_eq, pay6_eq]
  refine (pay1_apply ⟨t.val, t.isLt⟩ w1 w2 w3 _ xb acc b j).trans ?_
  rw [pay7_apply]
  simp only [Fin.ext_iff]

/-- One point's step: the row of its sequence gains the sum over the sequence's rows. -/
theorem accStep_apply (t : Fin grid0.N) (acc : Vec Ideal S16x10 .f32) (b : Fin 16) (j : Fin 10) :
    accStep (F := Ideal) t (iblk m c 1 t) (iblk m c 3 t) (iblk m c 5 t) (iblk m c 0 t) (landedV c (V m c main_v0) t) acc (ix2 b j)
      = acc (ix2 b j) + (if b.val = t.val then (1 : EReal) else 0) * ∑ l, rowOut m c ⟨t.val, t.isLt⟩ l j := by
  refine (accStep_read t _ _ _ _ _ acc b j).trans (congrArg (fun x => acc (ix2 b j) + (if b.val = t.val then (1 : EReal) else 0) * x) ?_)
  have ht : t.val < 16 := t.isLt
  refine (congrArg₂ (· + ·) (Finset.sum_congr rfl fun r _ => ?_) (Finset.sum_congr rfl fun r _ => ?_)).trans
    (sum_halves fun l => rowOut m c ⟨t.val, t.isLt⟩ l j).symm
  · exact (congrFun (row_staged m c t _) j).trans (congrFun (congrArg _ (funext fun k =>
      (iblk_rows m c t r k ⟨4096 * t.val + r.val, by omega⟩ rfl).trans (V_rows m c ⟨t.val, ht⟩ ⟨r.val, by omega⟩ k _ rfl))) j)
  · exact (congrFun (row_staged m c t _) j).trans (congrFun (congrArg _ (funext fun k =>
      (landed_rows c (V m c main_v0) t r k ⟨4096 * t.val + 2048 + r.val, by omega⟩ rfl).trans
        (V_rows m c ⟨t.val, ht⟩ ⟨2048 + r.val, by omega⟩ k _ (Nat.add_assoc _ _ _)))) j)

/-- After `k` points the accumulator holds the sums of the first `k` sequences and zero for the others. -/
theorem accAt_apply (b : Fin 16) (j : Fin 10) :
    ∀ k : ℕ, k ≤ 16 → (accAt m c k : Vec Ideal S16x10 .f32) (ix2 b j) = if b.val < k then ∑ l, rowOut m c b l j else 0 := by
  intro k
  induction k with
  | zero => intro _; exact pay3_apply b j
  | succ k ih =>
    intro hk
    have hk' : k < 16 := hk
    refine (congrFun (accAt_succ m c ⟨k, hk'⟩) (ix2 b j)).trans ((accStep_apply m c ⟨k, hk'⟩ _ b j).trans ?_)
    refine (congrArg (· + (if b.val = k then (1 : EReal) else 0) * ∑ l, rowOut m c ⟨k, hk'⟩ l j) (ih hk'.le)).trans ?_
    by_cases hb : b.val = k
    · obtain rfl : b = ⟨k, hk'⟩ := Fin.ext hb
      simp
    · have hiff : (b.val < k + 1) = (b.val < k) := propext ⟨fun h => by omega, fun h => by omega⟩
      simp [hb, hiff]

/-- The result: the head on the sums. -/
theorem outAt_apply (t : Fin cfg0.N) (ht : t.val = 15) (b : Fin 16) (n : Fin 100) :
    (outAt m c t : Vec Ideal S16x100 .f32) (ix2 b n)
      = head (mat (arg m c main_arg7)) (fun k => (arg m c main_arg8 : Vec Ideal S50 .f32) (ix1 k)) (mat (arg m c main_arg9))
          (fun k => (arg m c main_arg10 : Vec Ideal S100 .f32) (ix1 k)) (mat (arg m c main_arg11))
          (fun k => (arg m c main_arg12 : Vec Ideal S200 .f32) (ix1 k)) (mat (arg m c main_arg13))
          (fun k => (arg m c main_arg14 : Vec Ideal S100 .f32) (ix1 k)) (fun j => ∑ l, rowOut m c b l j) n := by
  unfold outAt
  refine (pay2_apply _ _ _ _ _ _ _ _ _ b n).trans ?_
  rw [iblk_w4, iblk_b4, iblk_w5, iblk_b5, iblk_w6, iblk_b6, iblk_w7, iblk_b7,
    show (fun j => accAt m c (t.val + 1) (ix2 b j)) = fun j => ∑ l, rowOut m c b l j from
      funext fun j => (accAt_apply m c b j (t.val + 1) (by omega)).trans (if_pos (by omega))]
  congr 1
  · exact funext fun k => V_b4 m c k
  · exact funext fun k => V_b5 m c k
  · exact funext fun k => V_b6 m c k
  · exact funext fun k => V_b7 m c k

end Cert.KernelIdeal.Hand

end
-- ==== Proof.ReferenceIdeal.Value.lean ====
/-
  The reference's result over the extended reals, read at an index, where the three biases of the row network are zero.
-/
module

public import proofs.«01_k».proof.Proof.Algebra
public import proofs.«01_k».proof.Proof.Gen.ReferenceIdeal.Read
public import Idealize.ShloMosaic.Lib.Pointwise

@[expose] public section

set_option maxRecDepth 16384

namespace Cert.ReferenceIdeal.Hand

open Idealize.ShloMosaic Cert.ReferenceIdeal Cert.ReferenceIdeal.Read Cert.Algebra
open scoped BigOperators

variable (x0 : (⟨S16x4096x1024, .f32⟩ : BufTy).Contents (Elt Ideal)) (x1 : (⟨S1024x30, .f32⟩ : BufTy).Contents (Elt Ideal))
  (x2 : (⟨S30, .f32⟩ : BufTy).Contents (Elt Ideal)) (x3 : (⟨S30x20, .f32⟩ : BufTy).Contents (Elt Ideal))
  (x4 : (⟨S20, .f32⟩ : BufTy).Contents (Elt Ideal)) (x5 : (⟨S20x10, .f32⟩ : BufTy).Contents (Elt Ideal))
  (x6 : (⟨S10, .f32⟩ : BufTy).Contents (Elt Ideal)) (x7 : (⟨S10x50, .f32⟩ : BufTy).Contents (Elt Ideal))
  (x8 : (⟨S50, .f32⟩ : BufTy).Contents (Elt Ideal)) (x9 : (⟨S50x100, .f32⟩ : BufTy).Contents (Elt Ideal))
  (x10 : (⟨S100, .f32⟩ : BufTy).Contents (Elt Ideal)) (x11 : (⟨S100x200, .f32⟩ : BufTy).Contents (Elt Ideal))
  (x12 : (⟨S200, .f32⟩ : BufTy).Contents (Elt Ideal)) (x13 : (⟨S200x100, .f32⟩ : BufTy).Contents (Elt Ideal))
  (x14 : (⟨S100, .f32⟩ : BufTy).Contents (Elt Ideal))

/-- The sum over a sequence's rows. -/
theorem sums_apply (h2 : ∀ n, x2 (ix1 n) = 0) (h4 : ∀ n, x4 (ix1 n) = 0) (h6 : ∀ n, x6 (ix1 n) = 0) (b : Fin 16) (j : Fin 10) :
    val_main_v15 (F := Ideal) x0 x1 x2 x3 x4 x5 x6 (ix2 b j)
      = ∑ l : Fin 4096, row (fun k n => x1 (ix2 k n)) (fun k n => x3 (ix2 k n)) (fun k n => x5 (ix2 k n)) (fun k => x0 (ix3 b l k)) j := by
  pointwise [val_main_v0, val_main_v1, val_main_v2, val_main_v3, val_main_call0_cst, val_main_call0_v0, val_main_v4, val_main_v5,
    val_main_v6, val_main_v7, val_main_v8, val_main_call1_cst, val_main_call1_v0, val_main_v9, val_main_v10, val_main_v11,
    val_main_v12, val_main_v13, val_main_call2_cst, val_main_call2_v0, val_main_v14, val_main_cst, val_main_v15]
  simp only [h2, h4, h6, add_zero]
  rfl

/-- The result is the head of the sums. -/
theorem result_apply (b : Fin 16) (n : Fin 100) :
    val_main_v40 (F := Ideal) x0 x1 x2 x3 x4 x5 x6 x7 x8 x9 x10 x11 x12 x13 x14 (ix2 b n)
      = head (fun k n => x7 (ix2 k n)) (fun k => x8 (ix1 k)) (fun k n => x9 (ix2 k n)) (fun k => x10 (ix1 k))
          (fun k n => x11 (ix2 k n)) (fun k => x12 (ix1 k)) (fun k n => x13 (ix2 k n)) (fun k => x14 (ix1 k))
          (fun k => val_main_v15 (F := Ideal) x0 x1 x2 x3 x4 x5 x6 (ix2 b k)) n := by
  pointwise [val_main_v16, val_main_v17, val_main_v18, val_main_v19, val_main_call3_cst, val_main_call3_v0, val_main_v20,
    val_main_v21, val_main_v22, val_main_v23, val_main_v24, val_main_call4_cst, val_main_call4_v0, val_main_v25, val_main_v26,
    val_main_v27, val_main_v28, val_main_v29, val_main_call5_cst, val_main_call5_v0, val_main_v30, val_main_v31, val_main_v32,
    val_main_v33, val_main_v34, val_main_v35, val_main_v36, val_main_cst_0, val_main_v37, val_main_v38, val_main_cst_1,
    val_main_v39, val_main_v40]
  rfl

end Cert.ReferenceIdeal.Hand

end
-- ==== Proof.Claims.lean ====
/-
  The claims: the frames of the ideal kernel and of the reference, and that the kernel's result and the reference's are
  equal over the extended reals where the biases of the row network are zero.
-/
module

public import proofs.«01_k».proof.Defs
public import proofs.«01_k».proof.Proof.Same
public import proofs.«01_k».proof.Proof.KernelIdeal.Run
public import proofs.«01_k».proof.Proof.KernelIdeal.Value
public import proofs.«01_k».proof.Proof.ReferenceIdeal.Value
public import proofs.«01_k».proof.Proof.Gen.ReferenceIdeal.Run
public import proofs.«01_k».proof.Proof.Gen.Pre_zero_biases
public import Idealize.ShloMosaic.Lib.Quiescent
public import Idealize.ShloMosaic.Lib.ReduceAll

@[expose] public section

set_option maxRecDepth 16384

noncomputable section

namespace Cert.Hand

open Idealize.ShloMosaic Idealize.ShloMosaic.TcCoe Idealize.SL.Sem
open Cert.KernelIdeal.Hand (arg outAt mat inputRow rowOut)

/-! ## The frames -/

theorem frame_ideal : Cert.quiescent_KernelIdeal := fun m ρ _ => Cert.KernelIdeal.Hand.run_frame m ρ

theorem frame_ideal_pre : Cert.quiescent_KernelIdeal_pre_zero_biases := fun m ρ _ => Cert.KernelIdeal.Hand.run_frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_zero_biases := fun m ρ _ => frame_reference m ρ trivial

/-! ## The precondition read back -/

/-- Every entry of a bias is zero. -/
abbrev IsZero {n : ℕ} (x : FVec Ideal ⟨1, ![n]⟩ .f32) : Prop := ∀ k : Fin n, x (ix1 k) = 0

/-- A bias whose every comparison with zero holds is zero. -/
theorem zero_of_all {n : ℕ} {t u : Shape} [Subsingleton t.Idx] {axes : List (Fin 1)} (x z : FVec Ideal ⟨1, ![n]⟩ .f32) (hz : ∀ i, z i = 0)
    (init : u.Idx → BitVec 1) (h : Shape.ReducesTo ⟨1, ![n]⟩ axes t) (hu : 0 < u.numel) (j : t.Idx)
    (e : Host.reduce IntOp.andi (cmpf .oeq x z) init h hu j = 1#1)
    : IsZero x := fun k =>
  ((Ideal.cmp_oeq_eq_one _ _).1 (Host.reduce_andi_all _ _ _ _ _ e (ix1 k))).trans (hz _)

theorem biases_zero (m : (ℓ : Loc Cert.KernelIdeal.nD Cert.KernelIdeal.τ Cert.KernelIdeal.sig) → Buf (Elt Ideal) ℓ)
    (h : Cert.Pre_KernelIdeal_zero_biases m) (c : Dev Cert.KernelIdeal.nD) :
    IsZero (n := 30) (arg m c Cert.KernelIdeal.main_arg2)
      ∧ IsZero (n := 20) (arg m c Cert.KernelIdeal.main_arg4)
      ∧ IsZero (n := 10) (arg m c Cert.KernelIdeal.main_arg6) := by
  have e := congrFun (h c) ix0
  unfold Cert.Pre_zero_biases.fn at e
  obtain ⟨e2, e'⟩ := IntOp.andi_eq_one.1 e
  obtain ⟨e4, e6⟩ := IntOp.andi_eq_one.1 e'
  haveI : Subsingleton Cert.Pre_zero_biases.S_.Idx := ⟨fun a b => funext fun i => i.elim0⟩
  have hz : ∀ (s : Shape) (hb : Cert.Pre_zero_biases.S_.BroadcastsInDim s ![]) (i : s.Idx),
      broadcastInDim s ![] hb (constant (F := Ideal) Cert.Pre_zero_biases.S_ .f32 0x00000000#32) i = (0 : EReal) :=
    fun s hb i => Ideal.ofBits_zero_f32
  exact ⟨zero_of_all _ _ (hz _ _) _ _ _ _ e2, zero_of_all _ _ (hz _ _) _ _ _ _ e4, zero_of_all _ _ (hz _ _) _ _ _ _ e6⟩

/-! ## The results are equal -/

section Result
open Cert.KernelIdeal

variable (m : (ℓ : Loc nD τ sig) → Buf (Elt Ideal) ℓ) (c : Dev nD)

/-- The reference's result of the arguments is what the kernel's last point stores. -/
theorem result_eq (h : Cert.Pre_KernelIdeal_zero_biases m) :
    Cert.ReferenceIdeal.Read.val_main_v40 (F := Ideal) (arg m c main_arg0) (arg m c main_arg1) (arg m c main_arg2) (arg m c main_arg3)
        (arg m c main_arg4) (arg m c main_arg5) (arg m c main_arg6) (arg m c main_arg7) (arg m c main_arg8) (arg m c main_arg9)
        (arg m c main_arg10) (arg m c main_arg11) (arg m c main_arg12) (arg m c main_arg13) (arg m c main_arg14)
      = outAt m c ⟨15, by decide⟩ := by
  obtain ⟨h2, h4, h6⟩ := biases_zero m h c
  funext i
  obtain ⟨b, n, rfl⟩ : ∃ (b : Fin 16) (n : Fin 100), i = ix2 b n := ⟨i 0, i 1, eq_ix2 i⟩
  refine (Cert.ReferenceIdeal.Hand.result_apply _ _ _ _ _ _ _ _ _ _ _ _ _ _ _ b n).trans
    (Eq.trans ?_ (Cert.KernelIdeal.Hand.outAt_apply m c ⟨15, by decide⟩ rfl b n).symm)
  refine congrFun (congrArg (Cert.Algebra.head _ _ _ _ _ _ _ _) (funext fun j => ?_)) n
  exact Cert.ReferenceIdeal.Hand.sums_apply _ _ _ _ _ _ _ h2 h4 h6 b j

end Result

theorem algebraic : Cert.algebraic_KernelIdeal_ReferenceIdeal_pre_zero_biases := by
  intro m g m' g' hpre hag
  refine ⟨fun c => outAt m c ⟨15, by decide⟩, Cert.KernelIdeal.Hand.run_value m g,
    (θ_run Cert.ReferenceIdeal.defs _ _).mono (fun r h c => ⟨(h c).1.trans ?_, (h c).2⟩) (Cert.ReferenceIdeal.Value.run (F := Ideal) m' g')⟩
  obtain ⟨e0, e1, e2, e3, e4, e5, e6, e7, e8, e9, e10, e11, e12, e13, e14⟩ := hag c
  rw [e0, e1, e2, e3, e4, e5, e6, e7, e8, e9, e10, e11, e12, e13, e14]
  exact (Cert.ReferenceIdeal.Read.val_main_v40_eq (F := Ideal) _ _ _ _ _ _ _ _ _ _ _ _ _ _ _).trans (result_eq m c hpre)

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_zero_biases
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_zero_biases.Gen.facts,
  Cert.Hand.frame_kernel, Cert.Hand.frame_ideal, Cert.Hand.frame_ideal_pre, Cert.Hand.frame_reference, Cert.Hand.frame_reference_pre,
  trivial, Cert.Hand.algebraic⟩

end Cert.Proof

end
